-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_target [hPre_finite_target : Cert.Pre_finite_target.Facts] (m : (ℓ : Loc Cert.KernelIdeal.nD Cert.KernelIdeal.τ Cert.KernelIdeal.sig) → Buf (Elt Ideal) ℓ) : Prop :=
  ∀ c : Dev Cert.KernelIdeal.nD,
    (Cert.Pre_finite_target.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_target [hPre_finite_target : Cert.Pre_finite_target.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_target.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_target [hKernelIdeal : Cert.KernelIdeal.Facts] [hPre_finite_target : Cert.Pre_finite_target.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_target m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_target [hReferenceIdeal : Cert.ReferenceIdeal.Facts] [hPre_finite_target : Cert.Pre_finite_target.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_target m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_log2" .f32 0x3FB8AA3B#32 (((Real.log 2)⁻¹ : ℝ) : EReal)
  ∧ IdealRules.named_const.Statement Cert.KernelIdeal.κ "log2_inv_sigma" .f32 0x420AA123#32 ((50 * (Real.log 2) : ℝ) : EReal)
  ∧ IdealRules.named_const.Statement Cert.KernelIdeal.κ "delta_step" .f32 0x3DC30C31#32 ((2 / 21 : ℝ) : EReal)

def algebraic_KernelIdeal_ReferenceIdeal_pre_finite_target [hKernelIdeal : Cert.KernelIdeal.Facts] [hReferenceIdeal : Cert.ReferenceIdeal.Facts] [hPre_finite_target : Cert.Pre_finite_target.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_target m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_target : Cert.Pre_finite_target.Facts),
    quiescent_Kernel (hKernel := hKernel)
    ∧ quiescent_KernelIdeal (hKernelIdeal := hKernelIdeal)
    ∧ quiescent_KernelIdeal_pre_finite_target (hKernelIdeal := hKernelIdeal) (hPre_finite_target := hPre_finite_target)
    ∧ quiescent_ReferenceIdeal (hReferenceIdeal := hReferenceIdeal)
    ∧ quiescent_ReferenceIdeal_pre_finite_target (hReferenceIdeal := hReferenceIdeal) (hPre_finite_target := hPre_finite_target)
    ∧ preserves_Kernel_KernelIdeal
    ∧ algebraic_KernelIdeal_ReferenceIdeal_pre_finite_target (hKernelIdeal := hKernelIdeal) (hReferenceIdeal := hReferenceIdeal) (hPre_finite_target := hPre_finite_target)
-- ==== Pre_finite_target.lean ====
abbrev S8x4x512x512 : Shape := ⟨4, ![8, 4, 512, 512]⟩
abbrev S3x64x64 : Shape := ⟨3, ![3, 64, 64]⟩
abbrev S_ : Shape := ⟨0, ![]⟩

class Facts : Prop where
  bcast_S_S3x64x64 : S_.BroadcastsInDim S3x64x64 (![] : Fin 0 → Fin S3x64x64.rank)

variable [Facts]

def fn {F : FTy → Type} [FloatOps F] (main_arg0 : FVec F S8x4x512x512 .f32) (main_arg1 : FVec F S3x64x64 .f32) : IVec S3x64x64 1 :=
  let main_v0 : FVec F S3x64x64 .f32 := Host.absf main_arg1
  let main_cst : FVec F S_ .f32 := constant S_ .f32 0x7F800000#32
  let main_v1 : FVec F S3x64x64 .f32 := broadcastInDim S3x64x64 ![] bcast_S_S3x64x64 main_cst
  let main_v2 : IVec S3x64x64 1 := cmpf .olt main_v0 main_v1
  main_v2
-- ==== Kernel.lean ====
abbrev S8x4x512x512 : Shape := ⟨4, ![8, 4, 512, 512]⟩
abbrev S3x64x64 : Shape := ⟨3, ![3, 64, 64]⟩
abbrev S1x64x64 : Shape := ⟨3, ![1, 64, 64]⟩
abbrev S64x64 : Shape := ⟨2, ![64, 64]⟩
abbrev S256 : Shape := ⟨1, ![256]⟩
abbrev S_ : Shape := ⟨0, ![]⟩
abbrev S1x256 : Shape := ⟨2, ![1, 256]⟩
abbrev S512 : Shape := ⟨1, ![512]⟩
abbrev S512x1 : Shape := ⟨2, ![512, 1]⟩
abbrev S512x256 : Shape := ⟨2, ![512, 256]⟩
abbrev S1x1 : Shape := ⟨2, ![1, 1]⟩
abbrev S1x3x512x512 : Shape := ⟨4, ![1, 3, 512, 512]⟩
abbrev S1x65536 : Shape := ⟨2, ![1, 65536]⟩
abbrev S128x128 : Shape := ⟨2, ![128, 128]⟩
abbrev S1x1x512x512 : Shape := ⟨4, ![1, 1, 512, 512]⟩
abbrev S512x512 : Shape := ⟨2, ![512, 512]⟩
abbrev S256x512 : Shape := ⟨2, ![256, 512]⟩
abbrev S256x256 : Shape := ⟨2, ![256, 256]⟩
abbrev S64x1 : Shape := ⟨2, ![64, 1]⟩
abbrev S64x65536 : Shape := ⟨2, ![64, 65536]⟩
abbrev S128x65536 : Shape := ⟨2, ![128, 65536]⟩
abbrev S64x192 : Shape := ⟨2, ![64, 192]⟩
abbrev S1x64x192 : Shape := ⟨3, ![1, 64, 192]⟩
abbrev S1 : Shape := ⟨1, ![1]⟩
abbrev S1x1x1 : Shape := ⟨3, ![1, 1, 1]⟩

abbrev nBuf : Space → Nat
  | .hbm => 75
  | .vmem => 10
  | .smem => 0
  | _ => 0

abbrev bufTy : (tb : Table) → Fin (tcTables nBuf tb) → BufTy
  | .hbm, ⟨0, _⟩ => ⟨S8x4x512x512, .f32⟩
  | .hbm, ⟨1, _⟩ => ⟨S3x64x64, .f32⟩
  | .hbm, ⟨2, _⟩ => ⟨S1x64x64, .f32⟩
  | .hbm, ⟨3, _⟩ => ⟨S64x64, .f32⟩
  | .hbm, ⟨4, _⟩ => ⟨S1x64x64, .f32⟩
  | .hbm, ⟨5, _⟩ => ⟨S1x64x64, .f32⟩
  | .hbm, ⟨6, _⟩ => ⟨S64x64, .f32⟩
  | .hbm, ⟨7, _⟩ => ⟨S1x64x64, .f32⟩
  | .hbm, ⟨8, _⟩ => ⟨S1x64x64, .f32⟩
  | .hbm, ⟨9, _⟩ => ⟨S64x64, .f32⟩
  | .hbm, ⟨10, _⟩ => ⟨S1x64x64, .f32⟩
  | .hbm, ⟨11, _⟩ => ⟨S1x64x64, .f32⟩
  | .hbm, ⟨12, _⟩ => ⟨S1x64x64, .f32⟩
  | .hbm, ⟨13, _⟩ => ⟨S3x64x64, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S512, .f32⟩
  | .hbm, ⟨26, _⟩ => ⟨S512x1, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S256, .f32⟩
  | .hbm, ⟨42, _⟩ => ⟨S1x256, .f32⟩
  | .hbm, ⟨43, _⟩ => ⟨S1x256, .f32⟩
  | .hbm, ⟨44, _⟩ => ⟨S_, .f32⟩
  | .hbm, ⟨45, _⟩ => ⟨S1x256, .f32⟩
  | .hbm, ⟨46, _⟩ => ⟨S1x256, .i1⟩
  | .hbm, ⟨47, _⟩ => ⟨S_, .f32⟩
  | .hbm, ⟨48, _⟩ => ⟨S1x256, .f32⟩
  | .hbm, ⟨49, _⟩ => ⟨S1x256, .i1⟩
  | .hbm, ⟨50, _⟩ => ⟨S_, .i32⟩
  | .hbm, ⟨51, _⟩ => ⟨S_, .f32⟩
  | .hbm, ⟨52, _⟩ => ⟨S1x256, .f32⟩
  | .hbm, ⟨53, _⟩ => ⟨S1x256, .f32⟩
  | .hbm, ⟨54, _⟩ => ⟨S512x256, .f32⟩
  | .hbm, ⟨55, _⟩ => ⟨S512x256, .f32⟩
  | .hbm, ⟨56, _⟩ => ⟨S_, .f32⟩
  | .hbm, ⟨57, _⟩ => ⟨S_, .f32⟩
  | .hbm, ⟨58, _⟩ => ⟨S512x256, .i1⟩
  | .hbm, ⟨59, _⟩ => ⟨S512x256, .f32⟩
  | .hbm, ⟨60, _⟩ => ⟨S512x256, .f32⟩
  | .hbm, ⟨61, _⟩ => ⟨S_, .f32⟩
  | .hbm, ⟨62, _⟩ => ⟨S256, .f32⟩
  | .hbm, ⟨63, _⟩ => ⟨S256, .i1⟩
  | .hbm, ⟨64, _⟩ => ⟨S_, .f32⟩
  | .hbm, ⟨65, _⟩ => ⟨S256, .f32⟩
  | .hbm, ⟨66, _⟩ => ⟨S256, .i1⟩
  | .hbm, ⟨67, _⟩ => ⟨S256, .i1⟩
  | .hbm, ⟨68, _⟩ => ⟨S1x256, .i1⟩
  | .hbm, ⟨69, _⟩ => ⟨S_, .f32⟩
  | .hbm, ⟨70, _⟩ => ⟨S_, .f32⟩
  | .hbm, ⟨71, _⟩ => ⟨S512x256, .i1⟩
  | .hbm, ⟨72, _⟩ => ⟨S512x256, .f32⟩
  | .hbm, ⟨73, _⟩ => ⟨S512x256, .f32⟩
  | .hbm, ⟨74, _⟩ => ⟨S1x1, .f32⟩
  | .local _ .vmem, ⟨0, _⟩ => ⟨S1x3x512x512, .f32⟩
  | .local _ .vmem, ⟨1, _⟩ => ⟨S1x3x512x512, .f32⟩
  | .local _ .vmem, ⟨2, _⟩ => ⟨S512x256, .f32⟩
  | .local _ .vmem, ⟨3, _⟩ => ⟨S3x64x64, .f32⟩
  | .local _ .vmem, ⟨4, _⟩ => ⟨S1x1, .f32⟩
  | .local _ .vmem, ⟨5, _⟩ => ⟨S1x65536, .f32⟩
  | .local _ .vmem, ⟨6, _⟩ => ⟨S1x65536, .f32⟩
  | .local _ .vmem, ⟨7, _⟩ => ⟨S1x65536, .f32⟩
  | .local _ .vmem, ⟨8, _⟩ => ⟨S128x128, .f32⟩
  | .local _ .vmem, ⟨9, _⟩ => ⟨S1x1, .f32⟩
  | _, _ => ⟨S8x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_c : Ref sig .tc := ⟨.hbm, 50, rfl⟩
abbrev main_call0_v0 : Ref sig .tc := ⟨.hbm, 51, rfl⟩
abbrev main_call0_v1 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c1_i32 : BitVec 32 := 1#32
  let v98 : BitVec 32 := Scalar.addi c0_i32 c1_i32
  let c1_i32_49 : BitVec 32 := 1#32
  ⟨c0_i32, v98, c1_i32_49⟩
def k0_off1 (k0_t1 : Fin k0_t1_loop.trips) : Fin 2 → Nat :=
  let c0_i32 : BitVec 32 := 0#32
  let c1_i32_49 : BitVec 32 := 1#32
  let arg10 : BitVec 32 := Scf.iv c0_i32 c1_i32_49 k0_t1
  let v144 : Index := Scalar.indexCast arg10
  let c0_74 : Index := 0#32
  ![v144.toNat, 0]
def k0_cond2 (i : grid0.Coords) : BitVec 1 :=
  let arg0 : BitVec 32 := BitVec.ofNat 32 (i 0).val
  let c7_i32 : BitVec 32 := 7#32
  let v141 : BitVec 1 := Scalar.cmpi .eq arg0 c7_i32
  let v142 : BitVec 32 := Scalar.extui v141
  let c0_i32_73 : BitVec 32 := 0#32
  let v143 : BitVec 1 := Scalar.cmpi .ne v142 c0_i32_73
  v143

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "delta_step" => some ((2 / 21 : ℝ) : EReal)
  | "inv_log2" => some (((Real.log 2)⁻¹ : ℝ) : EReal)
  | "log2_inv_sigma" => some ((50 * (Real.log 2) : ℝ) : EReal)
  | _ => none
-- ==== ReferenceIdeal.lean ====
abbrev S8x4x512x512 : Shape := ⟨4, ![8, 4, 512, 512]⟩
abbrev S3x64x64 : Shape := ⟨3, ![3, 64, 64]⟩
abbrev S2 : Shape := ⟨1, ![2]⟩
abbrev S8x3x512x512 : Shape := ⟨4, ![8, 3, 512, 512]⟩
abbrev S_ : Shape := ⟨0, ![]⟩
abbrev S1 : Shape := ⟨1, ![1]⟩
abbrev S256 : Shape := ⟨1, ![256]⟩
abbrev S512 : Shape := ⟨1, ![512]⟩
abbrev S1x256 : Shape := ⟨2, ![1, 256]⟩
abbrev S512x1 : Shape := ⟨2, ![512, 1]⟩
abbrev S512x256 : Shape := ⟨2, ![512, 256]⟩
abbrev S256x8x3x512 : Shape := ⟨4, ![256, 8, 3, 512]⟩
abbrev S256x8x3x256 : Shape := ⟨4, ![256, 8, 3, 256]⟩
abbrev S8x3x256x256 : Shape := ⟨4, ![8, 3, 256, 256]⟩
abbrev S8x3x65536 : Shape := ⟨3, ![8, 3, 65536]⟩
abbrev S8x65536x3 : Shape := ⟨3, ![8, 65536, 3]⟩
abbrev S8x65536x1 : Shape := ⟨3, ![8, 65536, 1]⟩
abbrev S8x65536 : Shape := ⟨2, ![8, 65536]⟩
abbrev S63 : Shape := ⟨1, ![63]⟩
abbrev S64 : Shape := ⟨1, ![64]⟩
abbrev S1x1x64 : Shape := ⟨3, ![1, 1, 64]⟩
abbrev S8x65536x64 : Shape := ⟨3, ![8, 65536, 64]⟩
abbrev S8x64x65536 : Shape := ⟨3, ![8, 64, 65536]⟩
abbrev S8x64x64 : Shape := ⟨3, ![8, 64, 64]⟩
abbrev S8x1x64x64 : Shape := ⟨4, ![8, 1, 64, 64]⟩
abbrev S8x3x64x64 : Shape := ⟨4, ![8, 3, 64, 64]⟩
abbrev S8 : Shape := ⟨1, ![8]⟩
abbrev S8x1x1x1 : Shape := ⟨4, ![8, 1, 1, 1]⟩
abbrev S1x3x64x64 : Shape := ⟨4, ![1, 3, 64, 64]⟩
abbrev S1x1 : Shape := ⟨2, ![1, 1]⟩

abbrev nBuf : Space → Nat
  | .hbm => 408
  | .vmem => 0
  | .smem => 0
  | _ => 0

abbrev hbmTy0_0 (i : Nat) : BufTy := match i % 128 with
  | 0 => ⟨S8x4x512x512, .f32⟩
  | 1 => ⟨S3x64x64, .f32⟩
  | 2 => ⟨S2, .f32⟩
  | 3 => ⟨S2, .f32⟩
  | 4 => ⟨S8x3x512x512, .f32⟩
  | 5 => ⟨S_, .f32⟩
  | 6 => ⟨S8x3x512x512, .f32⟩
  | 7 => ⟨S8x3x512x512, .f32⟩
  | 8 => ⟨S_, .f32⟩
  | 9 => ⟨S8x3x512x512, .f32⟩
  | 10 => ⟨S8x3x512x512, .f32⟩
  | 11 => ⟨S_, .f32⟩
  | 12 => ⟨S_, .f32⟩
  | 13 => ⟨S_, .f32⟩
  | 14 => ⟨S8x3x512x512, .f32⟩
  | 15 => ⟨S8x3x512x512, .f32⟩
  | 16 => ⟨S_, .f32⟩
  | 17 => ⟨S8x3x512x512, .f32⟩
  | 18 => ⟨S8x3x512x512, .f32⟩
  | 19 => ⟨S1, .f32⟩
  | 20 => ⟨S_, .f32⟩
  | 21 => ⟨S1, .f32⟩
  | 22 => ⟨S_, .f32⟩
  | 23 => ⟨S_, .f32⟩
  | 24 => ⟨S_, .f32⟩
  | 25 => ⟨S_, .f32⟩
  | 26 => ⟨S_, .f32⟩
  | 27 => ⟨S256, .f32⟩
  | 28 => ⟨S_, .f32⟩
  | 29 => ⟨S256, .f32⟩
  | 30 => ⟨S256, .f32⟩
  | 31 => ⟨S256, .f32⟩
  | 32 => ⟨S256, .f32⟩
  | 33 => ⟨S_, .f32⟩
  | 34 => ⟨S256, .f32⟩
  | 35 => ⟨S256, .f32⟩
  | 36 => ⟨S_, .f32⟩
  | 37 => ⟨S256, .f32⟩
  | 38 => ⟨S256, .f32⟩
  | 39 => ⟨S512, .f32⟩
  | 40 => ⟨S1x256, .f32⟩
  | 41 => ⟨S512x1, .f32⟩
  | 42 => ⟨S512x256, .f32⟩
  | 43 => ⟨S512x256, .f32⟩
  | 44 => ⟨S512x256, .f32⟩
  | 45 => ⟨S512x256, .f32⟩
  | 46 => ⟨S512x256, .f32⟩
  | 47 => ⟨S512x256, .f32⟩
  | 48 => ⟨S512x256, .f32⟩
  | 49 => ⟨S_, .f32⟩
  | 50 => ⟨S512x256, .f32⟩
  | 51 => ⟨S512x256, .f32⟩
  | 52 => ⟨S_, .f32⟩
  | 53 => ⟨S512x256, .f32⟩
  | 54 => ⟨S512x256, .f32⟩
  | 55 => ⟨S_, .f32⟩
  | 56 => ⟨S256, .f32⟩
  | 57 => ⟨S1x256, .f32⟩
  | 58 => ⟨S1x256, .f32⟩
  | 59 => ⟨S_, .f32⟩
  | 60 => ⟨S1x256, .f32⟩
  | 61 => ⟨S1x256, .i1⟩
  | 62 => ⟨S_, .f32⟩
  | 63 => ⟨S1x256, .f32⟩
  | 64 => ⟨S1x256, .i1⟩
  | 65 => ⟨S_, .i32⟩
  | 66 => ⟨S_, .f32⟩
  | 67 => ⟨S1x256, .f32⟩
  | 68 => ⟨S1x256, .f32⟩
  | 69 => ⟨S512x256, .f32⟩
  | 70 => ⟨S512x256, .f32⟩
  | 71 => ⟨S_, .i32⟩
  | 72 => ⟨S_, .f32⟩
  | 73 => ⟨S512x256, .i1⟩
  | 74 => ⟨S512x256, .f32⟩
  | 75 => ⟨S512x256, .f32⟩
  | 76 => ⟨S_, .f32⟩
  | 77 => ⟨S256, .f32⟩
  | 78 => ⟨S256, .i1⟩
  | 79 => ⟨S_, .f32⟩
  | 80 => ⟨S256, .f32⟩
  | 81 => ⟨S256, .i1⟩
  | 82 => ⟨S256, .i1⟩
  | 83 => ⟨S1x256, .i1⟩
  | 84 => ⟨S_, .i32⟩
  | 85 => ⟨S_, .f32⟩
  | 86 => ⟨S512x256, .i1⟩
  | 87 => ⟨S512x256, .f32⟩
  | 88 => ⟨S512x256, .f32⟩
  | 89 => ⟨S1, .f32⟩
  | 90 => ⟨S_, .f32⟩
  | 91 => ⟨S1, .f32⟩
  | 92 => ⟨S_, .f32⟩
  | 93 => ⟨S_, .f32⟩
  | 94 => ⟨S_, .f32⟩
  | 95 => ⟨S_, .f32⟩
  | 96 => ⟨S_, .f32⟩
  | 97 => ⟨S256, .f32⟩
  | 98 => ⟨S_, .f32⟩
  | 99 => ⟨S256, .f32⟩
  | 100 => ⟨S256, .f32⟩
  | 101 => ⟨S256, .f32⟩
  | 102 => ⟨S256, .f32⟩
  | 103 => ⟨S_, .f32⟩
  | 104 => ⟨S256, .f32⟩
  | 105 => ⟨S256, .f32⟩
  | 106 => ⟨S_, .f32⟩
  | 107 => ⟨S256, .f32⟩
  | 108 => ⟨S256, .f32⟩
  | 109 => ⟨S512, .f32⟩
  | 110 => ⟨S1x256, .f32⟩
  | 111 => ⟨S512x1, .f32⟩
  | 112 => ⟨S512x256, .f32⟩
  | 113 => ⟨S512x256, .f32⟩
  | 114 => ⟨S512x256, .f32⟩
  | 115 => ⟨S512x256, .f32⟩
  | 116 => ⟨S512x256, .f32⟩
  | 117 => ⟨S512x256, .f32⟩
  | 118 => ⟨S512x256, .f32⟩
  | 119 => ⟨S_, .f32⟩
  | 120 => ⟨S512x256, .f32⟩
  | 121 => ⟨S512x256, .f32⟩
  | 122 => ⟨S_, .f32⟩
  | 123 => ⟨S512x256, .f32⟩
  | 124 => ⟨S512x256, .f32⟩
  | 125 => ⟨S_, .f32⟩
  | 126 => ⟨S256, .f32⟩
  | 127 => ⟨S1x256, .f32⟩
  | _ => ⟨S8x4x512x512, .f32⟩

abbrev hbmTy0_1 (i : Nat) : BufTy := match i % 128 with
  | 0 => ⟨S1x256, .f32⟩
  | 1 => ⟨S_, .f32⟩
  | 2 => ⟨S1x256, .f32⟩
  | 3 => ⟨S1x256, .i1⟩
  | 4 => ⟨S_, .f32⟩
  | 5 => ⟨S1x256, .f32⟩
  | 6 => ⟨S1x256, .i1⟩
  | 7 => ⟨S_, .i32⟩
  | 8 => ⟨S_, .f32⟩
  | 9 => ⟨S1x256, .f32⟩
  | 10 => ⟨S1x256, .f32⟩
  | 11 => ⟨S512x256, .f32⟩
  | 12 => ⟨S512x256, .f32⟩
  | 13 => ⟨S_, .i32⟩
  | 14 => ⟨S_, .f32⟩
  | 15 => ⟨S512x256, .i1⟩
  | 16 => ⟨S512x256, .f32⟩
  | 17 => ⟨S512x256, .f32⟩
  | 18 => ⟨S_, .f32⟩
  | 19 => ⟨S256, .f32⟩
  | 20 => ⟨S256, .i1⟩
  | 21 => ⟨S_, .f32⟩
  | 22 => ⟨S256, .f32⟩
  | 23 => ⟨S256, .i1⟩
  | 24 => ⟨S256, .i1⟩
  | 25 => ⟨S1x256, .i1⟩
  | 26 => ⟨S_, .i32⟩
  | 27 => ⟨S_, .f32⟩
  | 28 => ⟨S512x256, .i1⟩
  | 29 => ⟨S512x256, .f32⟩
  | 30 => ⟨S512x256, .f32⟩
  | 31 => ⟨S256x8x3x512, .f32⟩
  | 32 => ⟨S256x8x3x256, .f32⟩
  | 33 => ⟨S8x3x256x256, .f32⟩
  | 34 => ⟨S8x3x65536, .f32⟩
  | 35 => ⟨S8x65536x3, .f32⟩
  | 36 => ⟨S8x65536x3, .f32⟩
  | 37 => ⟨S8x65536x1, .f32⟩
  | 38 => ⟨S8x65536, .f32⟩
  | 39 => ⟨S8x65536x1, .f32⟩
  | 40 => ⟨S8x65536, .f32⟩
  | 41 => ⟨S8x65536, .f32⟩
  | 42 => ⟨S8x65536x1, .f32⟩
  | 43 => ⟨S8x65536, .f32⟩
  | 44 => ⟨S8x65536, .f32⟩
  | 45 => ⟨S_, .f32⟩
  | 46 => ⟨S8x65536, .f32⟩
  | 47 => ⟨S8x65536, .f32⟩
  | 48 => ⟨S8x65536, .f32⟩
  | 49 => ⟨S8x65536x1, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S63, .f32⟩
  | 58 => ⟨S_, .f32⟩
  | 59 => ⟨S63, .f32⟩
  | 60 => ⟨S63, .f32⟩
  | 61 => ⟨S1, .f32⟩
  | 62 => ⟨S_, .f32⟩
  | 63 => ⟨S63, .f32⟩
  | 64 => ⟨S63, .f32⟩
  | 65 => ⟨S63, .f32⟩
  | 66 => ⟨S63, .f32⟩
  | 67 => ⟨S1, .f32⟩
  | 68 => ⟨S63, .f32⟩
  | 69 => ⟨S63, .f32⟩
  | 70 => ⟨S63, .f32⟩
  | 71 => ⟨S1, .f32⟩
  | 72 => ⟨S64, .f32⟩
  | 73 => ⟨S1x1x64, .f32⟩
  | 74 => ⟨S8x65536x1, .f32⟩
  | 75 => ⟨S8x65536, .f32⟩
  | 76 => ⟨S_, .f32⟩
  | 77 => ⟨S8x65536, .f32⟩
  | 78 => ⟨S8x65536, .f32⟩
  | 79 => ⟨S8x65536, .f32⟩
  | 80 => ⟨S8x65536x1, .f32⟩
  | 81 => ⟨S8x65536, .f32⟩
  | 82 => ⟨S_, .f32⟩
  | 83 => ⟨S8x65536, .f32⟩
  | 84 => ⟨S8x65536, .f32⟩
  | 85 => ⟨S8x65536, .f32⟩
  | 86 => ⟨S8x65536, .f32⟩
  | 87 => ⟨S8x65536x1, .f32⟩
  | 88 => ⟨S8x65536x1, .f32⟩
  | 89 => ⟨S8x65536, .f32⟩
  | 90 => ⟨S_, .f32⟩
  | 91 => ⟨S8x65536, .f32⟩
  | 92 => ⟨S8x65536, .f32⟩
  | 93 => ⟨S8x65536, .f32⟩
  | 94 => ⟨S8x65536x1, .f32⟩
  | 95 => ⟨S8x65536, .f32⟩
  | 96 => ⟨S_, .f32⟩
  | 97 => ⟨S8x65536, .f32⟩
  | 98 => ⟨S8x65536, .f32⟩
  | 99 => ⟨S8x65536, .f32⟩
  | 100 => ⟨S8x65536, .f32⟩
  | 101 => ⟨S8x65536x1, .f32⟩
  | 102 => ⟨S8x65536x64, .f32⟩
  | 103 => ⟨S8x65536x64, .f32⟩
  | 104 => ⟨S8x65536x64, .f32⟩
  | 105 => ⟨S8x65536x64, .f32⟩
  | 106 => ⟨S8x65536x64, .f32⟩
  | 107 => ⟨S8x65536x64, .f32⟩
  | 108 => ⟨S8x65536x64, .f32⟩
  | 109 => ⟨S8x65536x64, .f32⟩
  | 110 => ⟨S8x65536x64, .f32⟩
  | 111 => ⟨S_, .f32⟩
  | 112 => ⟨S8x65536x64, .f32⟩
  | 113 => ⟨S8x65536x64, .f32⟩
  | 114 => ⟨S_, .f32⟩
  | 115 => ⟨S8x65536x64, .f32⟩
  | 116 => ⟨S8x65536x64, .f32⟩
  | 117 => ⟨S_, .f32⟩
  | 118 => ⟨S8x65536x64, .f32⟩
  | 119 => ⟨S8x65536x64, .f32⟩
  | 120 => ⟨S8x65536x64, .f32⟩
  | 121 => ⟨S_, .f32⟩
  | 122 => ⟨S8x65536x64, .f32⟩
  | 123 => ⟨S8x65536x64, .f32⟩
  | 124 => ⟨S_, .f32⟩
  | 125 => ⟨S8x65536x64, .f32⟩
  | 126 => ⟨S8x65536x64, .f32⟩
  | 127 => ⟨S_, .f32⟩
  | _ => ⟨S8x4x512x512, .f32⟩

abbrev hbmTy0_2 (i : Nat) : BufTy := match i % 128 with
  | 0 => ⟨S8x65536x64, .f32⟩
  | 1 => ⟨S8x65536x64, .f32⟩
  | 2 => ⟨S8x65536x64, .f32⟩
  | 3 => ⟨S8x65536x64, .f32⟩
  | 4 => ⟨S8x64x65536, .f32⟩
  | 5 => ⟨S8x64x64, .f32⟩
  | 6 => ⟨S8x65536x1, .f32⟩
  | 7 => ⟨S8x65536, .f32⟩
  | 8 => ⟨S_, .f32⟩
  | 9 => ⟨S8x65536, .f32⟩
  | 10 => ⟨S8x65536, .f32⟩
  | 11 => ⟨S8x65536, .f32⟩
  | 12 => ⟨S8x65536x1, .f32⟩
  | 13 => ⟨S8x65536, .f32⟩
  | 14 => ⟨S_, .f32⟩
  | 15 => ⟨S8x65536, .f32⟩
  | 16 => ⟨S8x65536, .f32⟩
  | 17 => ⟨S8x65536, .f32⟩
  | 18 => ⟨S8x65536, .f32⟩
  | 19 => ⟨S8x65536x1, .f32⟩
  | 20 => ⟨S8x65536x1, .f32⟩
  | 21 => ⟨S8x65536, .f32⟩
  | 22 => ⟨S_, .f32⟩
  | 23 => ⟨S8x65536, .f32⟩
  | 24 => ⟨S8x65536, .f32⟩
  | 25 => ⟨S8x65536, .f32⟩
  | 26 => ⟨S8x65536x1, .f32⟩
  | 27 => ⟨S8x65536, .f32⟩
  | 28 => ⟨S_, .f32⟩
  | 29 => ⟨S8x65536, .f32⟩
  | 30 => ⟨S8x65536, .f32⟩
  | 31 => ⟨S8x65536, .f32⟩
  | 32 => ⟨S8x65536, .f32⟩
  | 33 => ⟨S8x65536x1, .f32⟩
  | 34 => ⟨S8x65536x64, .f32⟩
  | 35 => ⟨S8x65536x64, .f32⟩
  | 36 => ⟨S8x65536x64, .f32⟩
  | 37 => ⟨S8x65536x64, .f32⟩
  | 38 => ⟨S8x65536x64, .f32⟩
  | 39 => ⟨S8x65536x64, .f32⟩
  | 40 => ⟨S8x65536x64, .f32⟩
  | 41 => ⟨S8x65536x64, .f32⟩
  | 42 => ⟨S8x65536x64, .f32⟩
  | 43 => ⟨S_, .f32⟩
  | 44 => ⟨S8x65536x64, .f32⟩
  | 45 => ⟨S8x65536x64, .f32⟩
  | 46 => ⟨S_, .f32⟩
  | 47 => ⟨S8x65536x64, .f32⟩
  | 48 => ⟨S8x65536x64, .f32⟩
  | 49 => ⟨S_, .f32⟩
  | 50 => ⟨S8x65536x64, .f32⟩
  | 51 => ⟨S8x65536x64, .f32⟩
  | 52 => ⟨S8x65536x64, .f32⟩
  | 53 => ⟨S_, .f32⟩
  | 54 => ⟨S8x65536x64, .f32⟩
  | 55 => ⟨S8x65536x64, .f32⟩
  | 56 => ⟨S_, .f32⟩
  | 57 => ⟨S8x65536x64, .f32⟩
  | 58 => ⟨S8x65536x64, .f32⟩
  | 59 => ⟨S_, .f32⟩
  | 60 => ⟨S8x65536x64, .f32⟩
  | 61 => ⟨S8x65536x64, .f32⟩
  | 62 => ⟨S8x65536x64, .f32⟩
  | 63 => ⟨S8x65536x64, .f32⟩
  | 64 => ⟨S8x64x65536, .f32⟩
  | 65 => ⟨S8x64x64, .f32⟩
  | 66 => ⟨S8x65536x1, .f32⟩
  | 67 => ⟨S8x65536, .f32⟩
  | 68 => ⟨S_, .f32⟩
  | 69 => ⟨S8x65536, .f32⟩
  | 70 => ⟨S8x65536, .f32⟩
  | 71 => ⟨S8x65536, .f32⟩
  | 72 => ⟨S8x65536x1, .f32⟩
  | 73 => ⟨S8x65536, .f32⟩
  | 74 => ⟨S_, .f32⟩
  | 75 => ⟨S8x65536, .f32⟩
  | 76 => ⟨S8x65536, .f32⟩
  | 77 => ⟨S8x65536, .f32⟩
  | 78 => ⟨S8x65536, .f32⟩
  | 79 => ⟨S8x65536x1, .f32⟩
  | 80 => ⟨S8x65536x1, .f32⟩
  | 81 => ⟨S8x65536, .f32⟩
  | 82 => ⟨S_, .f32⟩
  | 83 => ⟨S8x65536, .f32⟩
  | 84 => ⟨S8x65536, .f32⟩
  | 85 => ⟨S8x65536, .f32⟩
  | 86 => ⟨S8x65536x1, .f32⟩
  | 87 => ⟨S8x65536, .f32⟩
  | 88 => ⟨S_, .f32⟩
  | 89 => ⟨S8x65536, .f32⟩
  | 90 => ⟨S8x65536, .f32⟩
  | 91 => ⟨S8x65536, .f32⟩
  | 92 => ⟨S8x65536, .f32⟩
  | 93 => ⟨S8x65536x1, .f32⟩
  | 94 => ⟨S8x65536x64, .f32⟩
  | 95 => ⟨S8x65536x64, .f32⟩
  | 96 => ⟨S8x65536x64, .f32⟩
  | 97 => ⟨S8x65536x64, .f32⟩
  | 98 => ⟨S8x65536x64, .f32⟩
  | 99 => ⟨S8x65536x64, .f32⟩
  | 100 => ⟨S8x65536x64, .f32⟩
  | 101 => ⟨S8x65536x64, .f32⟩
  | 102 => ⟨S8x65536x64, .f32⟩
  | 103 => ⟨S_, .f32⟩
  | 104 => ⟨S8x65536x64, .f32⟩
  | 105 => ⟨S8x65536x64, .f32⟩
  | 106 => ⟨S_, .f32⟩
  | 107 => ⟨S8x65536x64, .f32⟩
  | 108 => ⟨S8x65536x64, .f32⟩
  | 109 => ⟨S_, .f32⟩
  | 110 => ⟨S8x65536x64, .f32⟩
  | 111 => ⟨S8x65536x64, .f32⟩
  | 112 => ⟨S8x65536x64, .f32⟩
  | 113 => ⟨S_, .f32⟩
  | 114 => ⟨S8x65536x64, .f32⟩
  | 115 => ⟨S8x65536x64, .f32⟩
  | 116 => ⟨S_, .f32⟩
  | 117 => ⟨S8x65536x64, .f32⟩
  | 118 => ⟨S8x65536x64, .f32⟩
  | 119 => ⟨S_, .f32⟩
  | 120 => ⟨S8x65536x64, .f32⟩
  | 121 => ⟨S8x65536x64, .f32⟩
  | 122 => ⟨S8x65536x64, .f32⟩
  | 123 => ⟨S8x65536x64, .f32⟩
  | 124 => ⟨S8x64x65536, .f32⟩
  | 125 => ⟨S8x64x64, .f32⟩
  | 126 => ⟨S8x1x64x64, .f32⟩
  | 127 => ⟨S8x1x64x64, .f32⟩
  | _ => ⟨S8x4x512x512, .f32⟩

abbrev hbmTy0_3 (i : Nat) : BufTy := match i % 128 with
  | 0 => ⟨S8x1x64x64, .f32⟩
  | 1 => ⟨S8x3x64x64, .f32⟩
  | 2 => ⟨S_, .f32⟩
  | 3 => ⟨S8, .f32⟩
  | 4 => ⟨S8x1x1x1, .f32⟩
  | 5 => ⟨S_, .f32⟩
  | 6 => ⟨S8x1x1x1, .f32⟩
  | 7 => ⟨S8x1x1x1, .f32⟩
  | 8 => ⟨S8x3x64x64, .f32⟩
  | 9 => ⟨S8x3x64x64, .f32⟩
  | 10 => ⟨S3x64x64, .f32⟩
  | 11 => ⟨S8x3x64x64, .f32⟩
  | 12 => ⟨S1x3x64x64, .f32⟩
  | 13 => ⟨S8x3x64x64, .f32⟩
  | 14 => ⟨S8x3x64x64, .f32⟩
  | 15 => ⟨S8x3x64x64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1x1, .f32⟩
  | _ => ⟨S8x4x512x512, .f32⟩

abbrev hbmTy (i : Nat) : BufTy := match i / 128 with
  | 0 => hbmTy0_0 i
  | 1 => hbmTy0_1 i
  | 2 => hbmTy0_2 i
  | 3 => hbmTy0_3 i
  | _ => ⟨S8x4x512x512, .f32⟩

abbrev bufTy : (tb : Table) → Fin (tcTables nBuf tb) → BufTy
  | .hbm, ⟨i, _⟩ => hbmTy i
  | _, _ => ⟨S8x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_cst_3 : Ref sig .tc := ⟨.hbm, 11, rfl⟩
abbrev main_cst_4 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_cst_6 : Ref sig .tc := ⟨.hbm, 25, rfl⟩
abbrev main_v11 : Ref sig .tc := ⟨.hbm, 26, rfl⟩
abbrev main_v12 : Ref sig .tc := ⟨.hbm, 27, rfl⟩
abbrev main_cst_7 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_8 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_v40 : Ref sig .tc := ⟨.hbm, 61, rfl⟩
abbrev main_cst_13 : Ref sig .tc := ⟨.hbm, 62, rfl⟩
abbrev main_v41 : Ref sig .tc := ⟨.hbm, 63, rfl⟩
abbrev main_v42 : Ref sig .tc := ⟨.hbm, 64, rfl⟩
abbrev main_c : Ref sig .tc := ⟨.hbm, 65, rfl⟩
abbrev main_call1_v0 : Ref sig .tc := ⟨.hbm, 66, rfl⟩
abbrev main_call1_v1 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_14 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v46 : Ref sig .tc := ⟨.hbm, 75, rfl⟩
abbrev main_cst_15 : Ref sig .tc := ⟨.hbm, 76, rfl⟩
abbrev main_v47 : Ref sig .tc := ⟨.hbm, 77, rfl⟩
abbrev main_v48 : Ref sig .tc := ⟨.hbm, 78, rfl⟩
abbrev main_cst_16 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_17 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_v58 : Ref sig .tc := ⟨.hbm, 94, rfl⟩
abbrev main_cst_19 : Ref sig .tc := ⟨.hbm, 95, rfl⟩
abbrev main_v59 : Ref sig .tc := ⟨.hbm, 96, rfl⟩
abbrev main_v60 : Ref sig .tc := ⟨.hbm, 97, rfl⟩
abbrev main_cst_20 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_21 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_22 : Ref sig .tc := ⟨.hbm, 119, rfl⟩
abbrev main_v80 : Ref sig .tc := ⟨.hbm, 120, rfl⟩
abbrev main_v81 : Ref sig .tc := ⟨.hbm, 121, rfl⟩
abbrev main_cst_23 : Ref sig .tc := ⟨.hbm, 122, rfl⟩
abbrev main_v82 : Ref sig .tc := ⟨.hbm, 123, rfl⟩
abbrev main_v83 : Ref sig .tc := ⟨.hbm, 124, rfl⟩
abbrev main_cst_24 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_25 : Ref sig .tc := ⟨.hbm, 129, rfl⟩
abbrev main_v87 : Ref sig .tc := ⟨.hbm, 130, rfl⟩
abbrev main_v88 : Ref sig .tc := ⟨.hbm, 131, rfl⟩
abbrev main_cst_26 : Ref sig .tc := ⟨.hbm, 132, rfl⟩
abbrev main_v89 : Ref sig .tc := ⟨.hbm, 133, rfl⟩
abbrev main_v90 : Ref sig .tc := ⟨.hbm, 134, rfl⟩
abbrev main_c_27 : Ref sig .tc := ⟨.hbm, 135, rfl⟩
abbrev main_call4_v0 : Ref sig .tc := ⟨.hbm, 136, rfl⟩
abbrev main_call4_v1 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_c_28 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v94 : Ref sig .tc := ⟨.hbm, 145, rfl⟩
abbrev main_cst_29 : Ref sig .tc := ⟨.hbm, 146, rfl⟩
abbrev main_v95 : Ref sig .tc := ⟨.hbm, 147, rfl⟩
abbrev main_v96 : Ref sig .tc := ⟨.hbm, 148, rfl⟩
abbrev main_cst_30 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_c_31 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_32 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_33 : Ref sig .tc := ⟨.hbm, 178, rfl⟩
abbrev main_cst_34 : Ref sig .tc := ⟨.hbm, 179, rfl⟩
abbrev main_call7_v0 : Ref sig .tc := ⟨.hbm, 180, rfl⟩
abbrev main_call7_v1 : Ref sig .tc := ⟨.hbm, 181, rfl⟩
abbrev main_call7_v2 : Ref sig .tc := ⟨.hbm, 182, rfl⟩
abbrev main_call7_cst : Ref sig .tc := ⟨.hbm, 183, rfl⟩
abbrev main_call7_v3 : Ref sig .tc := ⟨.hbm, 184, rfl⟩
abbrev main_call7_v4 : Ref sig .tc := ⟨.hbm, 185, rfl⟩
abbrev main_call7_cst_0 : Ref sig .tc := ⟨.hbm, 186, rfl⟩
abbrev main_call7_v5 : Ref sig .tc := ⟨.hbm, 187, rfl⟩
abbrev main_call7_v6 : Ref sig .tc := ⟨.hbm, 188, rfl⟩
abbrev main_call7_v7 : Ref sig .tc := ⟨.hbm, 189, rfl⟩
abbrev main_call7_cst_1 : Ref sig .tc := ⟨.hbm, 190, rfl⟩
abbrev main_call7_v8 : Ref sig .tc := ⟨.hbm, 191, rfl⟩
abbrev main_call7_v9 : Ref sig .tc := ⟨.hbm, 192, rfl⟩
abbrev main_call7_v10 : Ref sig .tc := ⟨.hbm, 193, rfl⟩
abbrev main_call7_v11 : Ref sig .tc := ⟨.hbm, 194, rfl⟩
abbrev main_call7_v12 : Ref sig .tc := ⟨.hbm, 195, rfl⟩
abbrev main_call7_v13 : Ref sig .tc := ⟨.hbm, 196, rfl⟩
abbrev main_call7_v14 : Ref sig .tc := ⟨.hbm, 197, rfl⟩
abbrev main_call7_v15 : Ref sig .tc := ⟨.hbm, 198, rfl⟩
abbrev main_call7_v16 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_cst_35 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_cst_36 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_cst_37 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_cst_38 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_cst_39 : Ref sig .tc := ⟨.hbm, 239, rfl⟩
abbrev main_v155 : Ref sig .tc := ⟨.hbm, 240, rfl⟩
abbrev main_v156 : Ref sig .tc := ⟨.hbm, 241, rfl⟩
abbrev main_cst_40 : Ref sig .tc := ⟨.hbm, 242, rfl⟩
abbrev main_v157 : Ref sig .tc := ⟨.hbm, 243, rfl⟩
abbrev main_v158 : Ref sig .tc := ⟨.hbm, 244, rfl⟩
abbrev main_cst_41 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_cst_42 : Ref sig .tc := ⟨.hbm, 249, rfl⟩
abbrev main_v162 : Ref sig .tc := ⟨.hbm, 250, rfl⟩
abbrev main_v163 : Ref sig .tc := ⟨.hbm, 251, rfl⟩
abbrev main_cst_43 : Ref sig .tc := ⟨.hbm, 252, rfl⟩
abbrev main_v164 : Ref sig .tc := ⟨.hbm, 253, rfl⟩
abbrev main_v165 : Ref sig .tc := ⟨.hbm, 254, rfl⟩
abbrev main_cst_44 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_cst_45 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_cst_46 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_cst_47 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_cst_48 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_cst_49 : Ref sig .tc := ⟨.hbm, 299, rfl⟩
abbrev main_v205 : Ref sig .tc := ⟨.hbm, 300, rfl⟩
abbrev main_v206 : Ref sig .tc := ⟨.hbm, 301, rfl⟩
abbrev main_cst_50 : Ref sig .tc := ⟨.hbm, 302, rfl⟩
abbrev main_v207 : Ref sig .tc := ⟨.hbm, 303, rfl⟩
abbrev main_v208 : Ref sig .tc := ⟨.hbm, 304, rfl⟩
abbrev main_cst_51 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_cst_52 : Ref sig .tc := ⟨.hbm, 309, rfl⟩
abbrev main_v212 : Ref sig .tc := ⟨.hbm, 310, rfl⟩
abbrev main_v213 : Ref sig .tc := ⟨.hbm, 311, rfl⟩
abbrev main_cst_53 : Ref sig .tc := ⟨.hbm, 312, rfl⟩
abbrev main_v214 : Ref sig .tc := ⟨.hbm, 313, rfl⟩
abbrev main_v215 : Ref sig .tc := ⟨.hbm, 314, rfl⟩
abbrev main_cst_54 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_cst_55 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_cst_56 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_v235 : Ref sig .tc := ⟨.hbm, 337, rfl⟩
abbrev main_cst_57 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_cst_58 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_v245 : Ref sig .tc := ⟨.hbm, 349, rfl⟩
abbrev main_v246 : Ref sig .tc := ⟨.hbm, 350, rfl⟩
abbrev main_v247 : Ref sig .tc := ⟨.hbm, 351, rfl⟩
abbrev main_v248 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_cst_59 : Ref sig .tc := ⟨.hbm, 359, rfl⟩
abbrev main_v255 : Ref sig .tc := ⟨.hbm, 360, rfl⟩
abbrev main_v256 : Ref sig .tc := ⟨.hbm, 361, rfl⟩
abbrev main_cst_60 : Ref sig .tc := ⟨.hbm, 362, rfl⟩
abbrev main_v257 : Ref sig .tc := ⟨.hbm, 363, rfl⟩
abbrev main_v258 : Ref sig .tc := ⟨.hbm, 364, rfl⟩
abbrev main_cst_61 : Ref sig .tc := ⟨.hbm, 365, rfl⟩
abbrev main_v259 : Ref sig .tc := ⟨.hbm, 366, rfl⟩
abbrev main_v260 : Ref sig .tc := ⟨.hbm, 367, rfl⟩
abbrev main_v261 : Ref sig .tc := ⟨.hbm, 368, rfl⟩
abbrev main_cst_62 : Ref sig .tc := ⟨.hbm, 369, rfl⟩
abbrev main_v262 : Ref sig .tc := ⟨.hbm, 370, rfl⟩
abbrev main_v263 : Ref sig .tc := ⟨.hbm, 371, rfl⟩
abbrev main_cst_63 : Ref sig .tc := ⟨.hbm, 372, rfl⟩
abbrev main_v264 : Ref sig .tc := ⟨.hbm, 373, rfl⟩
abbrev main_v265 : Ref sig .tc := ⟨.hbm, 374, rfl⟩
abbrev main_cst_64 : Ref sig .tc := ⟨.hbm, 375, rfl⟩
abbrev main_v266 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_v270 : Ref sig .tc := ⟨.hbm, 380, rfl⟩
abbrev main_v271 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_v275 : Ref sig .tc := ⟨.hbm, 385, rfl⟩
abbrev main_cst_65 : Ref sig .tc := ⟨.hbm, 386, rfl⟩
abbrev main_v276 : Ref sig .tc := ⟨.hbm, 387, rfl⟩
abbrev main_v277 : Ref sig .tc := ⟨.hbm, 388, rfl⟩
abbrev main_cst_66 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_v281 : Ref sig .tc := ⟨.hbm, 393, rfl⟩
abbrev main_v282 : Ref sig .tc := ⟨.hbm, 394, rfl⟩
abbrev main_v283 : Ref sig .tc := ⟨.hbm, 395, rfl⟩
abbrev main_v284 : Ref sig .tc := ⟨.hbm, 396, rfl⟩
abbrev main_v285 : Ref sig .tc := ⟨.hbm, 397, rfl⟩
abbrev main_v286 : Ref sig .tc := ⟨.hbm, 398, rfl⟩
abbrev main_v287 : Ref sig .tc := ⟨.hbm, 399, rfl⟩
abbrev main_cst_67 : Ref sig .tc := ⟨.hbm, 400, rfl⟩
abbrev main_v288 : Ref sig .tc := ⟨.hbm, 401, rfl⟩
abbrev main_v289 : Ref sig .tc := ⟨.hbm, 402, rfl⟩
abbrev main_cst_68 : Ref sig .tc := ⟨.hbm, 403, rfl⟩
abbrev main_v290 : Ref sig .tc := ⟨.hbm, 404, rfl⟩
abbrev main_cst_69 : Ref sig .tc := ⟨.hbm, 405, rfl⟩
abbrev main_v291 : Ref sig .tc := ⟨.hbm, 406, rfl⟩
abbrev main_v292 : Ref sig .tc := ⟨.hbm, 407, rfl⟩

abbrev nD : Nat := 1
abbrev τ : Topo := Topo.v7x

variable {F : FTy → Type} [FloatOps F]
-- ==== Proof.KernelBlock.lean ====
module

public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Block

open Idealize.ShloMosaic Idealize.ShloMosaic.TcCoe Idealize.ShloMosaic.Tactic
open Cert.KernelIdeal Cert.KernelIdeal.Gen

variable {F : FTy → Type} [FloatOps F] [Named F]

/-- Offsets of 0 on both axes. -/
theorem hz : (![0, 0] : Fin 2 → Nat) = fun _ => 0 := funext fun a => by fin_cases a <;> rfl

/-- Channel 0, 1 and 2 of a block of the image. -/
def ch0 (x : Vec F S1x3x512x512 .f32) : Vec F S1x1x512x512 .f32 :=
  View.ld x (Rect.unit (s := S1x3x512x512) ![0, 0, 0, 0] S1x1x512x512.size inb_S1x3x512x512_S1x1x512x512_0_0_0_0)
def ch1 (x : Vec F S1x3x512x512 .f32) : Vec F S1x1x512x512 .f32 :=
  View.ld x (Rect.unit (s := S1x3x512x512) ![0, 1, 0, 0] S1x1x512x512.size inb_S1x3x512x512_S1x1x512x512_0_1_0_0)
def ch2 (x : Vec F S1x3x512x512 .f32) : Vec F S1x1x512x512 .f32 :=
  View.ld x (Rect.unit (s := S1x3x512x512) ![0, 2, 0, 0] S1x1x512x512.size inb_S1x3x512x512_S1x1x512x512_0_2_0_0)

/-- Block 0, 1 and 2 of the target. -/
def tb0 (t : Vec F S3x64x64 .f32) : Vec F S1x64x64 .f32 :=
  View.ld t (Rect.unit (s := S3x64x64) ![0, 0, 0] S1x64x64.size inb_S3x64x64_S1x64x64_0_0_0)
def tb1 (t : Vec F S3x64x64 .f32) : Vec F S1x64x64 .f32 :=
  View.ld t (Rect.unit (s := S3x64x64) ![1, 0, 0] S1x64x64.size inb_S3x64x64_S1x64x64_1_0_0)
def tb2 (t : Vec F S3x64x64 .f32) : Vec F S1x64x64 .f32 :=
  View.ld t (Rect.unit (s := S3x64x64) ![2, 0, 0] S1x64x64.size inb_S3x64x64_S1x64x64_2_0_0)

/-- The product of the stacked kernels that one point accumulates. -/
def gram (x : Vec F S1x3x512x512 .f32) (w : Vec F S512x256 .f32) : FVec F S128x128 .f32 :=
  k0_pay17 (k0_pay12 (k0_pay6 w (ch0 x)) (k0_pay7 w (ch1 x)) k0_pay8)
    (k0_pay14 (k0_pay13 (k0_pay4 w) (k0_pay6 w (ch0 x)) (ch2 x)))
    (k0_pay15 (k0_pay11 (k0_pay4 w) (k0_pay5 w (ch0 x)) (k0_pay7 w (ch1 x)) k0_pay8 (ch2 x))) k0_pay16

/-- What one point leaves in the running sum, which it finds at `s`. -/
def step (x : Vec F S1x3x512x512 .f32) (w : Vec F S512x256 .f32) (t : Vec F S3x64x64 .f32) (s : FVec F S1x1 .f32) :
    FVec F S1x1 .f32 :=
  k0_pay2 (k0_pay18 (gram x w)) (k0_pay19 (tb0 t)) (k0_pay20 (tb1 t)) (tb2 t) s

/-- The one trip of the loop starts at 0. -/
theorem off_zero_lit (k : Fin k0_t1_loop.trips) : k0_off1 k = ![0, 0] := by
  revert k; decide +kernel

/-- A load through the whole rectangle at the trip's offsets is one at zero. -/
theorem readAt_off {S : Shape} {e : EltTy} (v : View sig .tc .vmem S e) {off off' : Fin S.rank → Nat} (ho : off = off')
    (h : ∀ a, off a + S.size a ≤ S.size a) (h' : ∀ a, off' a + S.size a ≤ S.size a) (X : BufTy.Contents (Elt F) v.ty) :
    View.readAt (Elt F) v (Rect.unit off S.size h).toLoadRect X = View.readAt (Elt F) v (Rect.unit off' S.size h').toLoadRect X := by
  subst ho; rfl

/-- The one trip of the loop stores the product of what it loads, added to what it finds. -/
theorem trip_eq (𝒱 : Variants) (c : Dev nD) (bd : Option 𝒱.V) (i : grid0.Coords)
    (a1 : Memref sig .tc .vmem S1x3x512x512 .f32) (h1 : a1.IsWhole) (a2 : Memref sig .tc .vmem S512x256 .f32) (h2 : a2.IsWhole) (a3 : Memref sig .tc .vmem S3x64x64 .f32) (h3 : a3.IsWhole)
    (a4 : Memref sig .tc .vmem S1x1 .f32) (h4 : a4.IsWhole) (a5 : Memref sig .tc .vmem S1x65536 .f32) (h5 : a5.IsWhole) (a6 : Memref sig .tc .vmem S1x65536 .f32) (h6 : a6.IsWhole)
    (a7 : Memref sig .tc .vmem S1x65536 .f32) (h7 : a7.IsWhole) (a8 : Memref sig .tc .vmem S128x128 .f32) (h8 : a8.IsWhole) (a9 : Memref sig .tc .vmem S1x1 .f32) (h9 : a9.IsWhole)
    (v67 v75 : FVec F S256x256 .f32) (X5 : BufTy.Contents (Elt F) a5.view.ty) (X6 : BufTy.Contents (Elt F) a6.view.ty)
    (X7 : BufTy.Contents (Elt F) a7.view.ty) (k : Fin k0_t1_loop.trips) (f : BufTy.Contents (Elt F) a8.view.ty) :
    (trip_k0_t1 𝒱 c bd i a1 h1 a2 h2 a3 h3 a4 h4 a5 h5 a6 h6 a7 h7 a8 h8 a9 h9 v67 v75 X5 X6 X7 k).1 f =
      [⟨Rect.unit (s := S128x128) ![0, 0] S128x128.size inb_S128x128_S128x128_0_0,
        k0_pay17
          (View.readAt (Elt F) a5.view (Rect.unit (s := S1x65536) (k0_off1 k) S1x65536.size (k0_off1_inb k)).toLoadRect X5)
          (View.readAt (Elt F) a6.view (Rect.unit (s := S1x65536) (k0_off1 k) S1x65536.size (k0_off1_inb k)).toLoadRect X6)
          (View.readAt (Elt F) a7.view (Rect.unit (s := S1x65536) (k0_off1 k) S1x65536.size (k0_off1_inb k)).toLoadRect X7)
          (View.readAt (Elt F) a8.view (Rect.unit (s := S128x128) ![0, 0] S128x128.size inb_S128x128_S128x128_0_0).toLoadRect f)⟩] := by
  unfold trip_k0_t1
  rfl

/-- The pieces the whole loop leaves, which takes one trip. -/
theorem pieces_eq (𝒱 : Variants) (c : Dev nD) (bd : Option 𝒱.V) (i : grid0.Coords)
    (a1 : Memref sig .tc .vmem S1x3x512x512 .f32) (h1 : a1.IsWhole) (a2 : Memref sig .tc .vmem S512x256 .f32) (h2 : a2.IsWhole) (a3 : Memref sig .tc .vmem S3x64x64 .f32) (h3 : a3.IsWhole)
    (a4 : Memref sig .tc .vmem S1x1 .f32) (h4 : a4.IsWhole) (a5 : Memref sig .tc .vmem S1x65536 .f32) (h5 : a5.IsWhole) (a6 : Memref sig .tc .vmem S1x65536 .f32) (h6 : a6.IsWhole)
    (a7 : Memref sig .tc .vmem S1x65536 .f32) (h7 : a7.IsWhole) (a8 : Memref sig .tc .vmem S128x128 .f32) (h8 : a8.IsWhole) (a9 : Memref sig .tc .vmem S1x1 .f32) (h9 : a9.IsWhole)
    (v67 v75 : FVec F S256x256 .f32) (X5 : BufTy.Contents (Elt F) a5.view.ty) (X6 : BufTy.Contents (Elt F) a6.view.ty)
    (X7 : BufTy.Contents (Elt F) a7.view.ty) (f : BufTy.Contents (Elt F) a8.view.ty) :
    pb_k0_t1 𝒱 c bd i a1 h1 a2 h2 a3 h3 a4 h4 a5 h5 a6 h6 a7 h7 a8 h8 a9 h9 v67 v75 X5 X6 X7 f (Scf.trips k0_t1_loop.lb k0_t1_loop.ub k0_t1_loop.st) =
      [⟨Rect.unit (s := S128x128) ![0, 0] S128x128.size inb_S128x128_S128x128_0_0,
        k0_pay17
          (View.readAt (Elt F) a5.view (Rect.unit (s := S1x65536) ![0, 0] S1x65536.size inb_S1x65536_S1x65536_0_0).toLoadRect X5)
          (View.readAt (Elt F) a6.view (Rect.unit (s := S1x65536) ![0, 0] S1x65536.size inb_S1x65536_S1x65536_0_0).toLoadRect X6)
          (View.readAt (Elt F) a7.view (Rect.unit (s := S1x65536) ![0, 0] S1x65536.size inb_S1x65536_S1x65536_0_0).toLoadRect X7)
          (View.readAt (Elt F) a8.view (Rect.unit (s := S128x128) ![0, 0] S128x128.size inb_S128x128_S128x128_0_0).toLoadRect f)⟩] := by
  have h := pb_k0_t1_succ 𝒱 c bd i a1 h1 a2 h2 a3 h3 a4 h4 a5 h5 a6 h6 a7 h7 a8 h8 a9 h9 v67 v75 X5 X6 X7 f ⟨0, by decide +kernel⟩
  unfold tripL_k0_t1 at h
  rw [trip_eq, readAt_off a5.view (off_zero_lit _) _ inb_S1x65536_S1x65536_0_0 X5,
    readAt_off a6.view (off_zero_lit _) _ inb_S1x65536_S1x65536_0_0 X6,
    readAt_off a7.view (off_zero_lit _) _ inb_S1x65536_S1x65536_0_0 X7] at h
  have h1 : Scf.trips k0_t1_loop.lb k0_t1_loop.ub k0_t1_loop.st = 0 + 1 := by decide +kernel
  rw [h1]
  refine h.trans ?_
  rfl

/-- A load through the whole rectangle of what one store through it left over junk. -/
theorem readAt_junk_one {S : Shape} {e : EltTy} (v : View sig .tc .vmem S e) (r : Rect S) (w : r.shape.Idx → Elt F e) :
    View.readAt (Elt F) v r.toLoadRect (v.writes (Elt F) v.junk [⟨r, w⟩]) = w := by
  rw [View.readAt_writes_junk_eq_canon]
  funext j
  exact View.canon_cons_emb r w [] j

/-- What the first point leaves in the running sum. -/
theorem sout0_A_4_eq (c : Dev nD) (i : grid0.Coords)
    (a1 : Memref sig .tc .vmem S1x3x512x512 .f32) (h1 : a1.IsWhole) (a2 : Memref sig .tc .vmem S512x256 .f32) (h2 : a2.IsWhole) (a3 : Memref sig .tc .vmem S3x64x64 .f32) (h3 : a3.IsWhole)
    (a4 : Memref sig .tc .vmem S1x1 .f32) (h4 : a4.IsWhole) (a5 : Memref sig .tc .vmem S1x65536 .f32) (h5 : a5.IsWhole) (a6 : Memref sig .tc .vmem S1x65536 .f32) (h6 : a6.IsWhole)
    (a7 : Memref sig .tc .vmem S1x65536 .f32) (h7 : a7.IsWhole) (a8 : Memref sig .tc .vmem S128x128 .f32) (h8 : a8.IsWhole) (a9 : Memref sig .tc .vmem S1x1 .f32) (h9 : a9.IsWhole) (hc0 : cond0_0 i) (hc1 : ¬cond0_1 i)
    (x : Vec F S1x3x512x512 .f32) (w : Vec F S512x256 .f32) (t : Vec F S3x64x64 .f32) :
    sout0_A_4 c i a1 h1 a2 h2 a3 h3 a4 h4 a5 h5 a6 h6 a7 h7 a8 h8 a9 h9 hc0 hc1 x w t = step x w t k0_pay1 := by
  unfold sout0_A_4
  rw [View.read_writes_eq_canon _ _ _ (scover0_A_4 c i a1 h1 a2 h2 a3 h3 a4 h4 a5 h5 a6 h6 a7 h7 a8 h8 a9 h9 hc0 hc1 x w t)]
  unfold kernelRun0_A
  dsimp only
  sl_unfold_words
  rw [View.canon_cons_unit_zero (S := S1x1) hz]
  rw [pieces_eq]
  simp only [List.cons_append, List.nil_append, View.readCov_cons_toLoadRect, readAt_junk_one]
  simp only [View.readAt_eq_ld, h1.read_unread, h2.read_unread, h3.read_unread, h9.read_unread, View.ld_unit_zero (S := S512x256) hz, View.ld_unit_zero (S := S1x1) hz]
  rfl

/-- What a middle point leaves in the running sum. -/
theorem sout0_B_4_eq (c : Dev nD) (i : grid0.Coords)
    (a1 : Memref sig .tc .vmem S1x3x512x512 .f32) (h1 : a1.IsWhole) (a2 : Memref sig .tc .vmem S512x256 .f32) (h2 : a2.IsWhole) (a3 : Memref sig .tc .vmem S3x64x64 .f32) (h3 : a3.IsWhole)
    (a4 : Memref sig .tc .vmem S1x1 .f32) (h4 : a4.IsWhole) (a5 : Memref sig .tc .vmem S1x65536 .f32) (h5 : a5.IsWhole) (a6 : Memref sig .tc .vmem S1x65536 .f32) (h6 : a6.IsWhole)
    (a7 : Memref sig .tc .vmem S1x65536 .f32) (h7 : a7.IsWhole) (a8 : Memref sig .tc .vmem S128x128 .f32) (h8 : a8.IsWhole) (a9 : Memref sig .tc .vmem S1x1 .f32) (h9 : a9.IsWhole) (hc0 : ¬cond0_0 i) (hc1 : ¬cond0_1 i)
    (x : Vec F S1x3x512x512 .f32) (w : Vec F S512x256 .f32) (t : Vec F S3x64x64 .f32) (s : Vec F S1x1 .f32) :
    sout0_B_4 c i a1 h1 a2 h2 a3 h3 a4 h4 a5 h5 a6 h6 a7 h7 a8 h8 a9 h9 hc0 hc1 x w t s = step x w t s := by
  unfold sout0_B_4
  rw [View.read_writes_eq_canon _ _ _ (scover0_B_4 c i a1 h1 a2 h2 a3 h3 a4 h4 a5 h5 a6 h6 a7 h7 a8 h8 a9 h9 hc0 hc1 x w t s)]
  unfold kernelRun0_B
  dsimp only
  sl_unfold_words
  rw [View.canon_cons_unit_zero (S := S1x1) hz]
  rw [pieces_eq]
  simp only [List.cons_append, List.nil_append, View.readCov_cons_toLoadRect, readAt_junk_one]
  simp only [View.readAt_eq_ld, h1.read_unread, h2.read_unread, h3.read_unread, h9.read_unread, View.ld_unit_zero (S := S512x256) hz, View.ld_unit_zero (S := S1x1) hz]
  rfl

/-- What the last point leaves in the running sum. -/
theorem sout0_C_4_eq (c : Dev nD) (i : grid0.Coords)
    (a1 : Memref sig .tc .vmem S1x3x512x512 .f32) (h1 : a1.IsWhole) (a2 : Memref sig .tc .vmem S512x256 .f32) (h2 : a2.IsWhole) (a3 : Memref sig .tc .vmem S3x64x64 .f32) (h3 : a3.IsWhole)
    (a4 : Memref sig .tc .vmem S1x1 .f32) (h4 : a4.IsWhole) (a5 : Memref sig .tc .vmem S1x65536 .f32) (h5 : a5.IsWhole) (a6 : Memref sig .tc .vmem S1x65536 .f32) (h6 : a6.IsWhole)
    (a7 : Memref sig .tc .vmem S1x65536 .f32) (h7 : a7.IsWhole) (a8 : Memref sig .tc .vmem S128x128 .f32) (h8 : a8.IsWhole) (a9 : Memref sig .tc .vmem S1x1 .f32) (h9 : a9.IsWhole) (hc0 : ¬cond0_0 i) (hc1 : cond0_1 i)
    (x : Vec F S1x3x512x512 .f32) (w : Vec F S512x256 .f32) (t : Vec F S3x64x64 .f32) (s : Vec F S1x1 .f32) :
    sout0_C_4 c i a1 h1 a2 h2 a3 h3 a4 h4 a5 h5 a6 h6 a7 h7 a8 h8 a9 h9 hc0 hc1 x w t s = step x w t s := by
  unfold sout0_C_4
  rw [View.read_writes_eq_canon _ _ _ (scover0_C_4 c i a1 h1 a2 h2 a3 h3 a4 h4 a5 h5 a6 h6 a7 h7 a8 h8 a9 h9 hc0 hc1 x w t s)]
  unfold kernelRun0_C
  dsimp only
  sl_unfold_words
  rw [View.canon_cons_unit_zero (S := S1x1) hz]
  rw [pieces_eq]
  simp only [List.cons_append, List.nil_append, View.readCov_cons_toLoadRect, readAt_junk_one]
  simp only [View.readAt_eq_ld, h1.read_unread, h2.read_unread, h3.read_unread, h9.read_unread, View.ld_unit_zero (S := S512x256) hz, View.ld_unit_zero (S := S1x1) hz]
  rfl

/-- What the last point leaves in the result. -/
theorem out0_C_3_eq (c : Dev nD) (i : grid0.Coords)
    (a1 : Memref sig .tc .vmem S1x3x512x512 .f32) (h1 : a1.IsWhole) (a2 : Memref sig .tc .vmem S512x256 .f32) (h2 : a2.IsWhole) (a3 : Memref sig .tc .vmem S3x64x64 .f32) (h3 : a3.IsWhole)
    (a4 : Memref sig .tc .vmem S1x1 .f32) (h4 : a4.IsWhole) (a5 : Memref sig .tc .vmem S1x65536 .f32) (h5 : a5.IsWhole) (a6 : Memref sig .tc .vmem S1x65536 .f32) (h6 : a6.IsWhole)
    (a7 : Memref sig .tc .vmem S1x65536 .f32) (h7 : a7.IsWhole) (a8 : Memref sig .tc .vmem S128x128 .f32) (h8 : a8.IsWhole) (a9 : Memref sig .tc .vmem S1x1 .f32) (h9 : a9.IsWhole) (hc0 : ¬cond0_0 i) (hc1 : cond0_1 i)
    (x : Vec F S1x3x512x512 .f32) (w : Vec F S512x256 .f32) (t : Vec F S3x64x64 .f32) (s : Vec F S1x1 .f32) :
    out0_C_3 c i a1 h1 a2 h2 a3 h3 a4 h4 a5 h5 a6 h6 a7 h7 a8 h8 a9 h9 hc0 hc1 x w t s = k0_pay3 (step x w t s) := by
  unfold out0_C_3
  rw [View.read_writes_eq_canon _ _ _ (cover0_C_3 c i a1 h1 a2 h2 a3 h3 a4 h4 a5 h5 a6 h6 a7 h7 a8 h8 a9 h9 hc0 hc1 x w t s)]
  unfold kernelRun0_C
  dsimp only
  sl_unfold_words
  rw [View.canon_cons_unit_zero (S := S1x1) hz]
  rw [pieces_eq]
  simp only [List.cons_append, List.nil_append, View.readCov_cons_toLoadRect, readAt_junk_one]
  simp only [View.readAt_eq_ld, h1.read_unread, h2.read_unread, h3.read_unread, h9.read_unread, View.ld_unit_zero (S := S512x256) hz, View.ld_unit_zero (S := S1x1) hz]
  rfl

end Cert.KernelIdeal.Block
-- ==== Proof.KernelHost.lean ====
module

public import proofs.«01_k».proof.Proof.Gen.KernelIdeal.Value
public import Idealize.ShloMosaic.Lib.StableHlo.Run

@[expose] public section

set_option maxRecDepth 16384

noncomputable section

namespace Cert.KernelIdeal.Host

open Idealize.ShloMosaic Idealize.ShloMosaic.TcCoe Idealize.ShloMosaic.Tactic
open Cert.KernelIdeal Cert.KernelIdeal.Gen

variable {F : FTy → Type} [FloatOps F] [Named F]

/-- The centres of the output pixels, measured in input pixels. -/
def sample : Vec F S256 .f32 :=
  subf (mulf (addf (sitofp FTy.f32 (iotaInDim S256 32 0)) (broadcastInDim S256 ![] bcast_S_S256 (constant S_ FTy.f32 0x3F000000#32)))
    (broadcastInDim S256 ![] bcast_S_S256 (constant S_ FTy.f32 0x40000000#32)))
    (broadcastInDim S256 ![] bcast_S_S256 (constant S_ FTy.f32 0x3F000000#32))

/-- The triangle of half-width two around each centre. -/
def triang : Vec F S512x256 .f32 :=
  maximumf (broadcastInDim S512x256 ![] bcast_S_S512x256 (constant S_ FTy.f32 0#32))
    (subf (broadcastInDim S512x256 ![] bcast_S_S512x256 (constant S_ FTy.f32 0x3F800000#32))
      (Host.divf (Host.absf (subf
        (broadcastInDim S512x256 ![0, 1] bcast_S1x256_S512x256_0_1 (broadcastInDim S1x256 ![1] bcast_S256_S1x256_1 sample))
        (broadcastInDim S512x256 ![0, 1] bcast_S512x1_S512x256_0_1
          (broadcastInDim S512x1 ![0] bcast_S512_S512x1_0 (sitofp FTy.f32 (iotaInDim S512 32 0))))))
        (broadcastInDim S512x256 ![] bcast_S_S512x256 (constant S_ FTy.f32 0x40000000#32))))

/-- Its column sums. -/
def total : Vec F S1x256 .f32 :=
  broadcastInDim S1x256 ![1] bcast_S256_S1x256_1 (Host.reduceAdd (triang (F := F)) (constant S_ FTy.f32 0#32) reducesTo_S512x256_S256_d0 h_S_)

/-- The triangle over its column sums, where the sums are not tiny. -/
def quot : Vec F S512x256 .f32 :=
  select (broadcastInDim S512x256 ![0, 1] bcast_S1x256_S512x256_0_1
      (cmpf .ogt (Host.absf (total (F := F))) (broadcastInDim S1x256 ![] bcast_S_S1x256 (constant S_ FTy.f32 0x38FA0000#32)) : Vec F S1x256 .i1))
    (Host.divf (triang (F := F)) (broadcastInDim S512x256 ![0, 1] bcast_S1x256_S512x256_0_1
      (select (cmpf .une (total (F := F)) (broadcastInDim S1x256 ![] bcast_S_S1x256 (constant S_ FTy.f32 0#32)) : Vec F S1x256 .i1) total
        (broadcastInDim S1x256 ![] bcast_S_S1x256 (sitofp FTy.f32 (constantI S_ 32 1#32)) : Vec F S1x256 .f32))))
    (broadcastInDim S512x256 ![] bcast_S_S512x256 (constant S_ FTy.f32 0#32))

/-- The resize weights the host hands to the launch. -/
def weights : Vec F S512x256 .f32 :=
  select (broadcastInDim S512x256 ![0, 1] bcast_S1x256_S512x256_0_1
      (broadcastInDim S1x256 ![1] bcast_S256_S1x256_1
        (andi (cmpf .oge (sample (F := F)) (broadcastInDim S256 ![] bcast_S_S256 (constant S_ FTy.f32 0xBF000000#32)))
          (cmpf .ole (sample (F := F)) (broadcastInDim S256 ![] bcast_S_S256 (constant S_ FTy.f32 0x43FFC000#32))) : Vec F S256 .i1)))
    (quot (F := F)) (broadcastInDim S512x256 ![] bcast_S_S512x256 (constant S_ FTy.f32 0#32))

/-- The three target tables, the second with its rows reversed, the third with rows and columns reversed. -/
def targets (x : Vec F S3x64x64 .f32) : Vec F S3x64x64 .f32 :=
  concatenate S3x64x64 0
    [⟨S1x64x64, broadcastInDim S1x64x64 ![1, 2] bcast_S64x64_S1x64x64_1_2
        (shapeCast S64x64 (extractStridedSlice S1x64x64 ![0, 0, 0] x slices_S3x64x64_S1x64x64_0_0_0) shapeCasts_S1x64x64_S64x64 : Vec F S64x64 .f32)⟩,
     ⟨S1x64x64, broadcastInDim S1x64x64 ![1, 2] bcast_S64x64_S1x64x64_1_2
        (shapeCast S64x64 (Host.reverse [1] (extractStridedSlice S1x64x64 ![1, 0, 0] x slices_S3x64x64_S1x64x64_1_0_0)) shapeCasts_S1x64x64_S64x64 : Vec F S64x64 .f32)⟩,
     ⟨S1x64x64, broadcastInDim S1x64x64 ![1, 2] bcast_S64x64_S1x64x64_1_2
        (shapeCast S64x64 (Host.reverse [1, 2] (extractStridedSlice S1x64x64 ![2, 0, 0] x slices_S3x64x64_S1x64x64_2_0_0)) shapeCasts_S1x64x64_S64x64 : Vec F S64x64 .f32)⟩]
    concatenates_S1x64x64_S1x64x64_S1x64x64_S3x64x64_d0

variable (m : (ℓ : Loc nD τ sig) → Buf (Elt F) ℓ)

/-- What the launch's second operand holds. -/
theorem V_weights (c : Dev nD) : V m c main_v49 = weights := by
  simp only [V, hostOps0, hostOps0_1, hostOps0_2, hostOps0_3, hostOps0_4, hostOps0_5, List.flatten_cons, List.flatten_nil,
    List.append_nil, List.cons_append, List.nil_append]
  after_results
  simp -implicitDefEqProofs only [StableHlo.TRef.toBuf, StableHlo.TRef.ofBuf, cast_cast, cast_eq, id_eq]
  rfl

/-- What the launch's third operand holds. -/
theorem V_targets (c : Dev nD) : V m c main_v11 = targets (m ((c : Thread nD τ).loc main_arg1)) := by
  simp only [V, hostOps0, hostOps0_1, hostOps0_2, hostOps0_3, hostOps0_4, hostOps0_5, List.flatten_cons, List.flatten_nil,
    List.append_nil, List.cons_append, List.nil_append]
  after_results
  rfl

end Cert.KernelIdeal.Host
-- ==== Proof.Model.lean ====
module

public import Idealize.ShloMosaic.PureOps.Ideal

@[expose] public section

noncomputable section

namespace Cert.Model

/-- The triangle of half-width two around the centre of output pixel `i`, at input pixel `r`. -/
def tri (r : Fin 512) (i : Fin 256) : ℝ :=
  max 0 (1 - |(((i : ℕ) : ℝ) + 1 / 2) * 2 - 1 / 2 - ((r : ℕ) : ℝ)| / 2)

/-- The sum of the triangle over the input pixels. -/
def tot (i : Fin 256) : ℝ := ∑ r, tri r i

/-- The resize weight: the triangle, normalised over the input pixels. -/
def W (r : Fin 512) (i : Fin 256) : ℝ := tri r i / tot i

/-- The triangle is at least 0. -/
theorem tri_nonneg (r : Fin 512) (i : Fin 256) : 0 ≤ tri r i := le_max_left _ _

/-- The pixel just left of the centre alone weighs three quarters. -/
theorem tot_ge (i : Fin 256) : 3 / 4 ≤ tot i := by
  have h : tri ⟨2 * i, by omega⟩ i ≤ tot i :=
    Finset.single_le_sum (f := fun r => tri r i) (fun r _ => tri_nonneg r i) (Finset.mem_univ _)
  refine le_trans (le_trans ?_ (le_max_right _ _)) h
  have e : (((i : ℕ) : ℝ) + 1 / 2) * 2 - 1 / 2 - ((2 * (i : ℕ) : ℕ) : ℝ) = 1 / 2 := by
    push_cast; ring
  show (3 / 4 : ℝ) ≤ 1 - |(((i : ℕ) : ℝ) + 1 / 2) * 2 - 1 / 2 - ((2 * (i : ℕ) : ℕ) : ℝ)| / 2
  rw [e, abs_of_pos (by norm_num)]; norm_num

/-- Its sum is positive. -/
theorem tot_pos (i : Fin 256) : 0 < tot i := lt_of_lt_of_le (by norm_num) (tot_ge i)

/-- The weights are at least 0. -/
theorem W_nonneg (r : Fin 512) (i : Fin 256) : 0 ≤ W r i := div_nonneg (tri_nonneg r i) (tot_pos i).le

/-- The weights of one output pixel sum to one. -/
theorem W_sum (i : Fin 256) : ∑ r, W r i = 1 := by
  unfold W
  rw [← Finset.sum_div]
  exact div_self (tot_pos i).ne'

/-- The resize of an image to 256 by 256: weights over the rows, then over the columns. -/
def rsz (x : Fin 512 → Fin 512 → ℝ) (i j : Fin 256) : ℝ := ∑ s, (∑ r, W r i * x r s) * W s j

/-- The resize of `x / 2 + 1 / 2` is half the resize of `x`, plus one half. -/
theorem rsz_affine (x : Fin 512 → Fin 512 → ℝ) (i j : Fin 256) :
    rsz (fun r s => 1 / 2 * x r s + 1 / 2) i j = 1 / 2 * rsz x i j + 1 / 2 := by
  have h : ∀ s, ∑ r, W r i * (1 / 2 * x r s + 1 / 2) = 1 / 2 * (∑ r, W r i * x r s) + 1 / 2 := by
    intro s
    rw [Finset.mul_sum, show (1 / 2 : ℝ) = ∑ r, W r i * (1 / 2) by
      rw [← Finset.sum_mul, W_sum]; ring, ← Finset.sum_add_distrib]
    refine Finset.sum_congr rfl fun r _ => ?_
    rw [← Finset.sum_mul, W_sum]; ring
  unfold rsz
  simp only [h]
  rw [Finset.mul_sum, show (1 / 2 : ℝ) = ∑ s, 1 / 2 * W s j by
      rw [← Finset.mul_sum, W_sum]; ring, ← Finset.sum_add_distrib]
  refine Finset.sum_congr rfl fun s _ => ?_
  rw [← Finset.mul_sum, W_sum]; ring

/-- The resize of an image of values at least 0 is at least 0. -/
theorem rsz_nonneg (x : Fin 512 → Fin 512 → ℝ) (hx : ∀ r s, 0 ≤ x r s) (i j : Fin 256) : 0 ≤ rsz x i j :=
  Finset.sum_nonneg fun s _ => mul_nonneg (Finset.sum_nonneg fun r _ => mul_nonneg (W_nonneg r i) (hx r s)) (W_nonneg s j)

/-- Pixel `n` of the flattened 256 by 256 image: its row and its column. -/
def row (n : Fin 65536) : Fin 256 := ⟨n / 256, by omega⟩
def col (n : Fin 65536) : Fin 256 := ⟨n % 256, by omega⟩

/-- The small number under roots and quotients. -/
def eps : ℝ := 8796093 / 2 ^ 43

/-- It is positive. -/
theorem eps_pos : 0 < eps := by unfold eps; positivity

/-- The resized channel `c` of a picture with values in [-1, 1], moved to [0, 1], at pixel `n`. -/
def z (t : Fin 3 → Fin 512 → Fin 512 → ℝ) (c : Fin 3) (n : Fin 65536) : ℝ :=
  1 / 2 * rsz (t c) (row n) (col n) + 1 / 2

/-- The moved channel is at least 0. -/
theorem z_nonneg (t : Fin 3 → Fin 512 → Fin 512 → ℝ) (ht : ∀ c r s, -1 ≤ t c r s) (c : Fin 3) (n : Fin 65536) :
    0 ≤ z t c n := by
  unfold z
  rw [← rsz_affine]
  exact rsz_nonneg _ (fun r s => by linarith [ht c r s]) _ _

/-- The logarithm of a channel. -/
def lg (t : Fin 3 → Fin 512 → Fin 512 → ℝ) (c : Fin 3) (n : Fin 65536) : ℝ := Real.log (z t c n + eps)

/-- The intensity of a pixel. -/
def iy (t : Fin 3 → Fin 512 → Fin 512 → ℝ) (n : Fin 65536) : ℝ :=
  √(z t 0 n * z t 0 n + z t 1 n * z t 1 n + z t 2 n * z t 2 n + eps)

/-- The intensity is positive. -/
theorem iy_pos (t : Fin 3 → Fin 512 → Fin 512 → ℝ) (n : Fin 65536) : 0 < iy t n :=
  Real.sqrt_pos.mpr (by nlinarith [eps_pos, mul_self_nonneg (z t 0 n), mul_self_nonneg (z t 1 n), mul_self_nonneg (z t 2 n)])

/-- The inverse-quadratic kernel of width 1/50. -/
def kap (d : ℝ) : ℝ := 1 / (1 + d * d * 2500)

/-- The kernel is positive. -/
theorem kap_pos (d : ℝ) : 0 < kap d :=
  one_div_pos.mpr (by nlinarith [mul_self_nonneg d])

/-- The kernel is even. -/
theorem kap_neg (d : ℝ) : kap (-d) = kap d := by unfold kap; ring_nf

/-- The centre of histogram bin `i`. -/
def dl (i : Fin 64) : ℝ := ((i : ℕ) : ℝ) * (2 / 21) - 3

/-- The bins lie symmetrically about zero. -/
theorem dl_rev (i : Fin 64) : dl i.rev = -dl i := by
  unfold dl
  have h : ((i.rev : ℕ) : ℝ) = 63 - ((i : ℕ) : ℝ) := by
    rw [Fin.val_rev, show 64 - ((i : ℕ) + 1) = 63 - (i : ℕ) by omega, Nat.cast_sub (by omega)]; norm_num
  rw [h]; ring

/-- The histogram of the logarithms of channel `c` against channels `a` and `b`. -/
def H (t : Fin 3 → Fin 512 → Fin 512 → ℝ) (c a b : Fin 3) (i j : Fin 64) : ℝ :=
  ∑ n, iy t n * kap (lg t c n - lg t a n - dl i) * kap (lg t c n - lg t b n - dl j)

/-- The three histograms of a picture. -/
def hist (t : Fin 3 → Fin 512 → Fin 512 → ℝ) (h : Fin 3) (i j : Fin 64) : ℝ :=
  match h with
  | 0 => H t 0 1 2 i j
  | 1 => H t 1 0 2 i j
  | 2 => H t 2 0 1 i j

/-- A histogram entry is positive. -/
theorem H_pos (t : Fin 3 → Fin 512 → Fin 512 → ℝ) (c a b : Fin 3) (i j : Fin 64) : 0 < H t c a b i j :=
  Finset.sum_pos (fun n _ => mul_pos (mul_pos (iy_pos t n) (kap_pos _)) (kap_pos _)) ⟨0, Finset.mem_univ _⟩

/-- So is each entry of the three. -/
theorem hist_pos (t : Fin 3 → Fin 512 → Fin 512 → ℝ) (h : Fin 3) (i j : Fin 64) : 0 < hist t h i j := by
  match h with
  | 0 => exact H_pos _ _ _ _ _ _
  | 1 => exact H_pos _ _ _ _ _ _
  | 2 => exact H_pos _ _ _ _ _ _

/-- The sum of the three histograms. -/
def nrm (t : Fin 3 → Fin 512 → Fin 512 → ℝ) : ℝ := ∑ h, ∑ i, ∑ j, hist t h i j

/-- And their sum. -/
theorem nrm_pos (t : Fin 3 → Fin 512 → Fin 512 → ℝ) : 0 < nrm t :=
  Finset.sum_pos (fun h _ => Finset.sum_pos (fun i _ => Finset.sum_pos (fun j _ => hist_pos t h i j)
    ⟨0, Finset.mem_univ _⟩) ⟨0, Finset.mem_univ _⟩) ⟨0, Finset.mem_univ _⟩

/-- The kernel's second quadrant is the second histogram with its rows reversed. -/
theorem hist1_rev (t : Fin 3 → Fin 512 → Fin 512 → ℝ) (i j : Fin 64) :
    ∑ n, kap (lg t 0 n - lg t 1 n - dl i) * (kap (lg t 1 n - lg t 2 n - dl j) * iy t n) = hist t 1 i.rev j := by
  show _ = H t 1 0 2 i.rev j
  unfold H
  refine Finset.sum_congr rfl fun n _ => ?_
  rw [dl_rev, show lg t 1 n - lg t 0 n - -dl i = -(lg t 0 n - lg t 1 n - dl i) by ring, kap_neg]; ring

/-- The kernel's fourth quadrant is the third histogram with rows and columns reversed. -/
theorem hist2_rev (t : Fin 3 → Fin 512 → Fin 512 → ℝ) (i j : Fin 64) :
    ∑ n, kap (lg t 0 n - lg t 2 n - dl i) * (kap (lg t 1 n - lg t 2 n - dl j) * iy t n) = hist t 2 i.rev j.rev := by
  show _ = H t 2 0 1 i.rev j.rev
  unfold H
  refine Finset.sum_congr rfl fun n _ => ?_
  rw [dl_rev, dl_rev, show lg t 2 n - lg t 0 n - -dl i = -(lg t 0 n - lg t 2 n - dl i) by ring,
    show lg t 2 n - lg t 1 n - -dl j = -(lg t 1 n - lg t 2 n - dl j) by ring, kap_neg, kap_neg]; ring

/-- The kernel's first quadrant is the first histogram. -/
theorem hist0_eq (t : Fin 3 → Fin 512 → Fin 512 → ℝ) (i j : Fin 64) :
    ∑ n, kap (lg t 0 n - lg t 1 n - dl i) * (kap (lg t 0 n - lg t 2 n - dl j) * iy t n) = hist t 0 i j := by
  show _ = H t 0 1 2 i j
  unfold H
  exact Finset.sum_congr rfl fun n _ => by ring

/-- A sum over 192 columns in three groups of 64 is the sum over three tables, the second with
its rows reversed and the third with its rows and columns reversed. -/
theorem sum_three {M : Type} [AddCommMonoid M] (f : Fin 64 → Fin 192 → M) (G : Fin 3 → Fin 64 → Fin 64 → M)
    (h0 : ∀ i j : Fin 64, f i ⟨j, by omega⟩ = G 0 i j)
    (h1 : ∀ i j : Fin 64, f i ⟨64 + j, by omega⟩ = G 1 i.rev j)
    (h2 : ∀ i j : Fin 64, f i ⟨128 + j, by omega⟩ = G 2 i.rev j.rev) :
    ∑ i, ∑ j, f i j = ∑ h, ∑ i, ∑ j, G h i j := by
  have e : ∀ i, ∑ j, f i j = ∑ j, G 0 i j + (∑ j, G 1 i.rev j + ∑ j, G 2 i.rev j) := by
    intro i
    have a := Fin.sum_univ_add (a := 64) (b := 128) (fun j => f i j)
    have b := Fin.sum_univ_add (a := 64) (b := 64) (fun j : Fin 128 => f i (Fin.natAdd 64 j))
    refine a.trans ?_
    rw [b]
    congr 1
    · exact Finset.sum_congr rfl fun j _ => h0 i j
    congr 1
    · exact Finset.sum_congr rfl fun j _ => h1 i j
    · rw [← Equiv.sum_comp Fin.revPerm]
      refine Finset.sum_congr rfl fun j _ => ?_
      have h := h2 i j.rev
      rw [Fin.rev_rev] at h
      rw [← h]
      congr 1
      apply Fin.ext
      simp; omega
  simp only [e, Finset.sum_add_distrib, Fin.sum_univ_three]
  rw [add_assoc]
  congr 2
  · exact Equiv.sum_comp Fin.revPerm (fun i => ∑ j, G 1 i j)
  · exact Equiv.sum_comp Fin.revPerm (fun i => ∑ j, G 2 i j)

/-- The expansion of a squared difference of roots, summed: over the reals, for tables at least 0. -/
theorem hellinger {ι : Type} [Fintype ι] (g t : ι → ℝ) (N : ℝ) (hN : 0 < N) (hg : ∀ i, 0 ≤ g i) (ht : ∀ i, 0 ≤ t i) :
    ∑ i, t i + (∑ i, g i) * (1 / N) - 2 * (∑ i, √(g i * t i)) * (√N)⁻¹
      = ∑ i, (√(t i) - √(g i * (1 / N))) * (√(t i) - √(g i * (1 / N))) := by
  have e : ∀ i, (√(t i) - √(g i * (1 / N))) * (√(t i) - √(g i * (1 / N)))
      = t i + g i * (1 / N) - 2 * √(g i * t i) * (√N)⁻¹ := by
    intro i
    have a : √(g i * (1 / N)) * √(g i * (1 / N)) = g i * (1 / N) :=
      Real.mul_self_sqrt (mul_nonneg (hg i) (by positivity))
    have b := Real.mul_self_sqrt (ht i)
    have c : √(g i * (1 / N)) = √(g i) * (√N)⁻¹ := by
      rw [Real.sqrt_mul (hg i), one_div, Real.sqrt_inv]
    have d : √(g i * t i) = √(g i) * √(t i) := Real.sqrt_mul (hg i) _
    calc _ = √(t i) * √(t i) + √(g i * (1 / N)) * √(g i * (1 / N)) - 2 * √(t i) * √(g i * (1 / N)) := by ring
      _ = _ := by rw [a, b, c, d]; ring
  simp only [e, Finset.sum_sub_distrib, Finset.sum_add_distrib, ← Finset.sum_mul, ← Finset.mul_sum]

end Cert.Model
-- ==== Proof.Consts.lean ====
module

public import proofs.«01_k».proof.Proof.Gen.KernelIdeal.Value
public import Idealize.ShloMosaic.Lib.Pointwise
public import proofs.«01_k».proof.Proof.Model

@[expose] public section

noncomputable section

namespace Cert.Consts

open Idealize.ShloMosaic
open Cert.Model (eps eps_pos)

/-- The float words of the two programs, read as the rationals they are. -/
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee, -EReal.coe_mul]
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_neg_three : Ideal.ofBits .f32 0xC0400000#32 = ((-3 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_fifty : Ideal.ofBits .f32 0x42480000#32 = ((50 : ℝ) : EReal) := by
  simp [Ideal.ofBits, Ideal.ieee, -EReal.coe_mul]; norm_num
theorem bits_sixty_three : Ideal.ofBits .f32 0x427C0000#32 = ((63 : ℝ) : EReal) := by
  simp [Ideal.ofBits, Ideal.ieee, -EReal.coe_mul]; norm_num
theorem bits_2500 : Ideal.ofBits .f32 0x451C4000#32 = ((2500 : ℝ) : EReal) := by
  simp [Ideal.ofBits, Ideal.ieee, -EReal.coe_mul]; norm_num
theorem bits_top_sample : Ideal.ofBits .f32 0x43FFC000#32 = ((1023 / 2 : ℝ) : EReal) := by
  simp [Ideal.ofBits, Ideal.ieee, -EReal.coe_mul]; norm_num
theorem bits_small : Ideal.ofBits .f32 0x38FA0000#32 = ((125 / 2 ^ 20 : ℝ) : EReal) := by
  simp [Ideal.ofBits, Ideal.ieee, -EReal.coe_mul]; norm_num
theorem bits_eps : Ideal.ofBits .f32 0x358637BD#32 = (eps : EReal) := by
  simp [Ideal.ofBits, Ideal.ieee, -EReal.coe_mul, eps]; norm_num
/-- The rounded 1/√2 in front of the loss. -/
def wl : ℝ := 11863283 / 2 ^ 24
/-- Its word. -/
theorem bits_wl : Ideal.ofBits .f32 0x3F3504F3#32 = (wl : EReal) := by
  simp [Ideal.ofBits, Ideal.ieee, -EReal.coe_mul, wl]; norm_num
/-- The word of infinity. -/
theorem bits_inf : Ideal.ofBits .f32 0x7F800000#32 = (⊤ : EReal) := by
  simp [Ideal.ofBits, Ideal.ieee, -EReal.coe_mul]

/-- The three named constants of the kernel, at their exact values. -/
theorem inv_log2 : Named.named (F := Ideal) Cert.KernelIdeal.κ "inv_log2" (φ := .f32) 0x3FB8AA3B#32
    = (((Real.log 2)⁻¹ : ℝ) : EReal) :=
  IdealRules.named_const.ideal_named_scalar _ _ _ _ rfl
theorem log2_inv_sigma : Named.named (F := Ideal) Cert.KernelIdeal.κ "log2_inv_sigma" (φ := .f32) 0x420AA123#32
    = ((50 * Real.log 2 : ℝ) : EReal) :=
  IdealRules.named_const.ideal_named_scalar _ _ _ _ rfl
theorem delta_step : Named.named (F := Ideal) Cert.KernelIdeal.κ "delta_step" (φ := .f32) 0x3DC30C31#32
    = ((2 / 21 : ℝ) : EReal) :=
  IdealRules.named_const.ideal_named_scalar _ _ _ _ rfl

end Cert.Consts
-- ==== Proof.Scalars.lean ====
module

public import Idealize.ShloMosaic.PureOps.Ideal.Laws
public import proofs.«01_k».proof.Proof.Model

@[expose] public section

noncomputable section

namespace Cert.Scalars

open Idealize.ShloMosaic

/-- A finite sum of reals, read among the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of two reals. -/
theorem coe_max (a b : ℝ) : max (a : EReal) (b : EReal) = ((max a b : ℝ) : EReal) :=
  (EReal.coe_strictMono.monotone.map_max).symm

/-- The smaller of two reals. -/
theorem coe_min (a b : ℝ) : min (a : EReal) (b : EReal) = ((min a b : ℝ) : EReal) :=
  (EReal.coe_strictMono.monotone.map_min).symm

/-- The magnitude of a real. -/
theorem absf_coe (a : ℝ) : FloatOps.absf (F := Ideal) (φ := .f32) (a : EReal) = ((|a| : ℝ) : EReal) := by
  show max (a : EReal) (-(a : EReal)) = _
  rw [← EReal.coe_neg, coe_max]; rfl

/-- A counter below 2^31 converted to a float is itself. -/
theorem nat_coe (n : ℕ) (h : n < 2 ^ 31) :
    FloatOps.sitofp (F := Ideal) FTy.f32 (BitVec.ofNat 32 n) = (((n : ℕ) : ℝ) : EReal) := by
  show (((BitVec.ofNat 32 n).toInt : ℝ) : EReal) = _
  have e : (BitVec.ofNat 32 n).toInt = (n : ℤ) := by
    rw [BitVec.toInt_eq_toNat_cond, BitVec.toNat_ofNat, Nat.mod_eq_of_lt (by omega), if_pos (by omega)]
  rw [e]; norm_cast

/-- The quotient of two reals, the divisor not 0. -/
theorem div_real (a b : ℝ) (h : b ≠ 0) : Ideal.div (a : EReal) (b : EReal) = ((a / b : ℝ) : EReal) := by
  rw [Ideal.div_coe h, ← EReal.coe_mul]; congr 1; ring

/-- The root of a real at least 0. -/
theorem sqrt_real (a : ℝ) (h : 0 ≤ a) : Ideal.sqrt (a : EReal) = ((√a : ℝ) : EReal) := by
  rw [Ideal.sqrt_coe, if_neg (not_lt.mpr h)]

/-- The root of a negative real is `⊥`. -/
theorem sqrt_neg (a : ℝ) (h : a < 0) : Ideal.sqrt (a : EReal) = ⊥ := by
  rw [Ideal.sqrt_coe, if_pos h]

/-- The reciprocal root of a positive real. -/
theorem rsqrt_real (a : ℝ) (h : 0 < a) : Ideal.rsqrt (a : EReal) = (((√a)⁻¹ : ℝ) : EReal) := by
  rw [Ideal.rsqrt_coe, if_neg (not_lt.mpr h.le), if_neg h.ne']

/-- The logarithm of a positive real. -/
theorem log_real (a : ℝ) (h : 0 < a) : Ideal.log (a : EReal) = ((Real.log a : ℝ) : EReal) := by
  rw [Ideal.log_coe, if_neg (not_le.mpr h)]

/-- A pixel clipped to [-1, 1], as a real. -/
def cl (x : EReal) : ℝ := (min 1 (max ((-1 : ℝ) : EReal) x)).toReal

/-- The clip is that real. -/
theorem clip_eq (x : EReal) : min 1 (max ((-1 : ℝ) : EReal) x) = (cl x : EReal) := by
  refine (EReal.coe_toReal ?_ ?_).symm
  · exact ne_top_of_le_ne_top (EReal.coe_ne_top 1) (min_le_left _ _)
  · exact ne_bot_of_le_ne_bot (EReal.coe_ne_bot (-1)) (le_min (by exact_mod_cast (by norm_num : (-1 : ℝ) ≤ 1)) (le_max_left _ _))

/-- A clipped pixel is at least -1. -/
theorem cl_ge (x : EReal) : -1 ≤ cl x := by
  have h : ((-1 : ℝ) : EReal) ≤ (cl x : EReal) := by
    rw [← clip_eq]; exact le_min (by exact_mod_cast (by norm_num : (-1 : ℝ) ≤ 1)) (le_max_left _ _)
  exact_mod_cast h

/-- The clip of a real. -/
theorem cl_coe (r : ℝ) : cl (r : EReal) = min 1 (max (-1) r) := by
  have h := clip_eq (r : EReal)
  rw [coe_max, show (1 : EReal) = ((1 : ℝ) : EReal) from rfl, coe_min] at h
  exact_mod_cast h.symm

/-- The clip of `⊤`. -/
theorem cl_top : cl ⊤ = 1 := by
  have h := clip_eq ⊤
  rw [max_eq_right le_top, min_eq_left le_top] at h
  exact_mod_cast h.symm

/-- The clip of `⊥`. -/
theorem cl_bot : cl ⊥ = -1 := by
  have h := clip_eq ⊥
  rw [max_eq_left bot_le, show (1 : EReal) = ((1 : ℝ) : EReal) from rfl, coe_min] at h
  have h' : min (1 : ℝ) (-1) = cl ⊥ := by exact_mod_cast h
  rw [← h']; norm_num

/-- Moving a pixel to [0, 1] and then clipping is clipping to [-1, 1] and then moving. -/
theorem half_clip (x : EReal) :
    min 1 (max 0 (((1 / 2 : ℝ) : EReal) * (x + 1))) = ((1 / 2 * cl x + 1 / 2 : ℝ) : EReal) := by
  induction x with
  | bot =>
    rw [EReal.bot_add, EReal.coe_mul_bot_of_pos (by norm_num), cl_bot, max_eq_left bot_le]
    norm_num
  | top =>
    rw [show (⊤ : EReal) + 1 = ⊤ from rfl, EReal.coe_mul_top_of_pos (by norm_num), cl_top, max_eq_right le_top]
    norm_num
  | coe r =>
    rw [cl_coe, show (1 : EReal) = ((1 : ℝ) : EReal) from rfl, show (0 : EReal) = ((0 : ℝ) : EReal) from rfl,
      ← EReal.coe_add, ← EReal.coe_mul, coe_max, coe_min]
    congr 1
    rcases le_total r (-1) with h | h
    · rw [max_eq_left h, max_eq_left (by linarith), min_eq_right (by norm_num), min_eq_right (by norm_num)]; norm_num
    · rw [max_eq_right h, max_eq_right (by linarith)]
      rcases le_total r 1 with h' | h'
      · rw [min_eq_right h', min_eq_right (by linarith)]; ring
      · rw [min_eq_left h', min_eq_left (by linarith)]; norm_num

/-- A sum with a term `⊥` is `⊥`. -/
theorem sum_bot {ι : Type} (s : Finset ι) (f : ι → EReal) (i : ι) (hi : i ∈ s) (h : f i = ⊥) : ∑ k ∈ s, f k = ⊥ := by
  classical
  rw [← Finset.add_sum_erase s f hi, h, EReal.bot_add]

/-- A sum of terms other than `⊥`, one of which is `⊤`, is `⊤`. -/
theorem sum_top {ι : Type} (s : Finset ι) (f : ι → EReal) (i : ι) (hi : i ∈ s) (h : f i = ⊤) (hb : ∀ k, 0 ≤ f k) :
    ∑ k ∈ s, f k = ⊤ := by
  classical
  rw [← Finset.add_sum_erase s f hi, h]
  exact EReal.top_add_of_ne_bot
    (ne_bot_of_le_ne_bot EReal.zero_ne_bot (Finset.sum_nonneg fun k _ => hb k))

/-- The expanded squared distance of the roots of two tables is the sum of squared differences, among
the extended reals: `g` is positive, `t` finite. Where an entry of `t` is negative both sides are `⊤`. -/
theorem contribution {ι : Type} [Fintype ι] (g : ι → ℝ) (t : ι → EReal) (N : ℝ) (hN : 0 < N) (hg : ∀ i, 0 < g i)
    (hb : ∀ i, t i ≠ ⊥) (ht : ∀ i, t i ≠ ⊤) :
    (∑ i, t i + Ideal.div ((∑ i, g i : ℝ) : EReal) (N : EReal))
        - (((2 : ℝ) : EReal) * ∑ i, Ideal.sqrt ((g i : EReal) * t i)) * Ideal.rsqrt (N : EReal)
      = ∑ i, (Ideal.sqrt (t i) - Ideal.sqrt (Ideal.div (g i : EReal) (N : EReal)))
          * (Ideal.sqrt (t i) - Ideal.sqrt (Ideal.div (g i : EReal) (N : EReal))) := by
  obtain ⟨τ, rfl⟩ : ∃ τ : ι → ℝ, t = fun i => (τ i : EReal) :=
    ⟨fun i => (t i).toReal, funext fun i => (EReal.coe_toReal (ht i) (hb i)).symm⟩
  have hq : ∀ i, Ideal.sqrt (Ideal.div (g i : EReal) (N : EReal)) = ((√(g i * (1 / N)) : ℝ) : EReal) := by
    intro i
    rw [div_real _ _ hN.ne', sqrt_real _ (div_nonneg (hg i).le hN.le)]; congr 2; ring
  simp only [hq]
  simp only [rsqrt_real N hN, div_real _ _ hN.ne', ← EReal.coe_mul, coe_sum, ← EReal.coe_add]
  by_cases h : ∀ i, 0 ≤ τ i
  · have e1 : ∀ i, Ideal.sqrt ((g i * τ i : ℝ) : EReal) = ((√(g i * τ i) : ℝ) : EReal) :=
      fun i => sqrt_real _ (mul_nonneg (hg i).le (h i))
    have e2 : ∀ i, Ideal.sqrt (τ i : EReal) = ((√(τ i) : ℝ) : EReal) := fun i => sqrt_real _ (h i)
    simp only [e1, e2, coe_sum, ← EReal.coe_mul, ← EReal.coe_sub]
    congr 1
    rw [← Cert.Model.hellinger g τ N hN (fun i => (hg i).le) h]
    ring
  · obtain ⟨k, hk⟩ := not_forall.mp h
    have hk : τ k < 0 := not_le.mp hk
    rw [sum_bot Finset.univ _ k (Finset.mem_univ k) (sqrt_neg _ (mul_neg_of_pos_of_neg (hg k) hk)),
      EReal.coe_mul_bot_of_pos (by norm_num), EReal.bot_mul_coe_of_pos (by positivity),
      EReal.coe_sub_bot]
    refine (sum_top Finset.univ _ k (Finset.mem_univ k) ?_ fun i => ?_).symm
    · rw [sqrt_neg _ hk]; rfl
    · rcases lt_or_ge (τ i) 0 with hi | hi
      · rw [sqrt_neg _ hi]; exact le_of_lt (by exact EReal.coe_lt_top 0)
      · rw [sqrt_real _ hi, ← EReal.coe_sub, ← EReal.coe_mul]
        exact_mod_cast mul_self_nonneg _

end Cert.Scalars
-- ==== Proof.KernelGram.lean ====
module

public import proofs.«01_k».proof.Proof.KernelBlock
public import proofs.«01_k».proof.Proof.KernelHost
public import proofs.«01_k».proof.Proof.Consts
public import proofs.«01_k».proof.Proof.Scalars
public import Idealize.ShloMosaic.Lib.Pointwise
public import Idealize.ShloMosaic.Lib.Tactic

@[expose] public section

set_option maxRecDepth 16384

noncomputable section

namespace Cert.KernelIdeal.Values

open Idealize.ShloMosaic
open Cert.KernelIdeal Cert.KernelIdeal.Gen Cert.KernelIdeal.Host Cert.KernelIdeal.Block
open Cert.Consts Cert.Scalars Cert.Model

/-- The centre of an output pixel, as the host computes it. -/
theorem sample_at (i : Fin 256) : sample (F := Ideal) (ix1 i) = (((((i : ℕ) : ℝ) + 1 / 2) * 2 - 1 / 2 : ℝ) : EReal) := by
  pointwise [sample]
  rw [nat_coe _ (by omega), bits_half, bits_two, ← EReal.coe_add, ← EReal.coe_mul, ← EReal.coe_sub]

/-- The triangle around it. -/
theorem triang_at (r : Fin 512) (i : Fin 256) : triang (F := Ideal) (ix2 r i) = (tri r i : EReal) := by
  pointwise [triang]
  rw [sample_at, nat_coe _ (by omega), bits_two, ← EReal.coe_sub, absf_coe, div_real _ _ (by norm_num),
    show (1 : EReal) = ((1 : ℝ) : EReal) from rfl, show (0 : EReal) = ((0 : ℝ) : EReal) from rfl, ← EReal.coe_sub, coe_max]
  rfl

/-- Its sum over the input pixels. -/
theorem total_at (i : Fin 256) : total (F := Ideal) (ix2 0 i) = (tot i : EReal) := by
  pointwise [total]
  simp only [triang_at, coe_sum]
  rfl

/-- The resize weights the host passes to the kernel. -/
theorem weights_at (r : Fin 512) (i : Fin 256) : weights (F := Ideal) (ix2 r i) = (W r i : EReal) := by
  pointwise [weights]
  have hq : quot (F := Ideal) (ix2 r i) = (W r i : EReal) := by
    pointwise [quot]
    rw [total_at, triang_at, bits_small, absf_coe, abs_of_pos (tot_pos i),
      if_pos (by exact_mod_cast lt_of_lt_of_le (by norm_num) (tot_ge i)),
      if_pos (by exact_mod_cast (tot_pos i).ne'), div_real _ _ (tot_pos i).ne']
    rfl
  have hi : ((i : ℕ) : ℝ) ≤ 255 := by exact_mod_cast (by omega : (i : ℕ) ≤ 255)
  have h0 : (0 : ℝ) ≤ ((i : ℕ) : ℝ) := Nat.cast_nonneg _
  rw [hq, sample_at, bits_neg_half, bits_top_sample,
    decide_eq_true (by exact_mod_cast (by linarith : (-(1 / 2) : ℝ) ≤ (((i : ℕ) : ℝ) + 1 / 2) * 2 - 1 / 2)),
    decide_eq_true (by exact_mod_cast (by linarith : (((i : ℕ) : ℝ) + 1 / 2) * 2 - 1 / 2 ≤ (1023 / 2 : ℝ)))]
  rfl

/-- A block of the image as a picture, its channels clipped to [-1, 1]. -/
def blockPic (x : Vec Ideal S1x3x512x512 .f32) : Fin 3 → Fin 512 → Fin 512 → ℝ := fun c r s => cl (x (ix4 0 c r s))

/-- Its pixels are at least -1. -/
theorem blockPic_ge (x : Vec Ideal S1x3x512x512 .f32) (c : Fin 3) (r s : Fin 512) : -1 ≤ blockPic x c r s := cl_ge _

variable (x : Vec Ideal S1x3x512x512 .f32) (w : Vec Ideal S512x256 .f32) (hw : ∀ r i, w (ix2 r i) = (W r i : EReal))

/-- The three channels of the block, at a pixel. -/
theorem ch0_at (r s : Fin 512) : ch0 x (ix4 0 0 r s) = x (ix4 0 0 r s) := by pointwise [ch0, View.ld]
theorem ch1_at (r s : Fin 512) : ch1 x (ix4 0 0 r s) = x (ix4 0 1 r s) := by pointwise [ch1, View.ld]
theorem ch2_at (r s : Fin 512) : ch2 x (ix4 0 0 r s) = x (ix4 0 2 r s) := by pointwise [ch2, View.ld]

include hw

/-- The weights, cast. -/
theorem pay4_at (r : Fin 512) (i : Fin 256) : k0_pay4 w (ix2 r i) = (W r i : EReal) := by
  pointwise [k0_pay4]
  exact hw r i

/-- Channel 0 moved to [0, 1]. -/
theorem pay5_at (i j : Fin 256) :
    k0_pay5 w (ch0 x) (ix2 i j) = ((1 / 2 * rsz (blockPic x 0) i j + 1 / 2 : ℝ) : EReal) := by
  pointwise [k0_pay5]
  simp only [pay4_at w hw, ch0_at, bits_neg_one, clip_eq, bits_half, ← EReal.coe_mul, coe_sum, ← EReal.coe_add]
  rfl

/-- The logarithm of channel 0 to base two. -/
theorem pay6_at (i j : Fin 256) :
    k0_pay6 w (ch0 x) (ix2 i j)
      = ((Real.log (1 / 2 * rsz (blockPic x 0) i j + 1 / 2 + eps) * (Real.log 2)⁻¹ : ℝ) : EReal) := by
  pointwise [k0_pay6]
  have h := rsz_nonneg (fun r s => 1 / 2 * blockPic x 0 r s + 1 / 2) (fun r s => by linarith [blockPic_ge x 0 r s]) i j
  rw [rsz_affine] at h
  rw [pay5_at x w hw, bits_eps, ← EReal.coe_add, log_real _ (by linarith [eps_pos]), inv_log2, ← EReal.coe_mul]

/-- Channel 1 moved to [0, 1]. -/
theorem pay9_at (i j : Fin 256) :
    k0_pay9 (k0_pay7 w (ch1 x)) k0_pay8 (ix2 i j) = ((1 / 2 * rsz (blockPic x 1) i j + 1 / 2 : ℝ) : EReal) := by
  pointwise [k0_pay9, k0_pay8, k0_pay7]
  simp only [pay4_at w hw, ch1_at, bits_neg_one, clip_eq, bits_half, ← EReal.coe_mul, coe_sum, ← EReal.coe_add]
  rfl

/-- Channel 2 moved to [0, 1]. -/
theorem pay10_at (i j : Fin 256) :
    k0_pay10 (k0_pay4 w) (ch2 x) (ix2 i j) = ((1 / 2 * rsz (blockPic x 2) i j + 1 / 2 : ℝ) : EReal) := by
  pointwise [k0_pay10]
  simp only [pay4_at w hw, ch2_at, bits_neg_one, clip_eq, bits_half, ← EReal.coe_mul, coe_sum, ← EReal.coe_add]
  rfl

/-- The intensity of a pixel. -/
theorem pay15_at (n : Fin 65536) :
    k0_pay15 (k0_pay11 (k0_pay4 w) (k0_pay5 w (ch0 x)) (k0_pay7 w (ch1 x)) k0_pay8 (ch2 x)) (ix2 0 n)
      = (iy (blockPic x) n : EReal) := by
  pointwise [k0_pay15, k0_pay11]
  rw [pay5_at x w hw, pay9_at x w hw, pay10_at x w hw, bits_eps]
  simp only [← EReal.coe_mul, ← EReal.coe_add]
  refine (sqrt_real _ ?_).trans rfl
  have e := eps_pos
  nlinarith [mul_self_nonneg (1 / 2 * rsz (blockPic x 0) (row n) (col n) + 1 / 2),
    mul_self_nonneg (1 / 2 * rsz (blockPic x 1) (row n) (col n) + 1 / 2), mul_self_nonneg (1 / 2 * rsz (blockPic x 2) (row n) (col n) + 1 / 2)]

/-- The two scaled differences of logarithms: channel 0 against channels 1 and 2. -/
theorem pay12_at (n : Fin 65536) :
    k0_pay12 (k0_pay6 w (ch0 x)) (k0_pay7 w (ch1 x)) k0_pay8 (ix2 0 n)
      = ((50 * (lg (blockPic x) 0 n - lg (blockPic x) 1 n) : ℝ) : EReal) := by
  pointwise [k0_pay12]
  have h := z_nonneg (blockPic x) (blockPic_ge x) 1 n
  have hl : Real.log 2 ≠ 0 := (Real.log_pos (by norm_num)).ne'
  rw [pay6_at x w hw, pay9_at x w hw, bits_eps, ← EReal.coe_add, log_real _ (by unfold z at h; linarith! [eps_pos]), inv_log2,
    log2_inv_sigma, ← EReal.coe_mul, ← EReal.coe_sub, ← EReal.coe_mul]
  congr 1
  show (lg (blockPic x) 0 n * (Real.log 2)⁻¹ - lg (blockPic x) 1 n * (Real.log 2)⁻¹) * (50 * Real.log 2) = _
  field_simp
theorem pay14_at (n : Fin 65536) :
    k0_pay14 (k0_pay13 (k0_pay4 w) (k0_pay6 w (ch0 x)) (ch2 x)) (ix2 0 n)
      = ((50 * (lg (blockPic x) 0 n - lg (blockPic x) 2 n) : ℝ) : EReal) := by
  pointwise [k0_pay14, k0_pay13]
  have h := z_nonneg (blockPic x) (blockPic_ge x) 2 n
  have hl : Real.log 2 ≠ 0 := (Real.log_pos (by norm_num)).ne'
  rw [pay6_at x w hw, pay10_at x w hw, bits_eps, ← EReal.coe_add, log_real _ (by unfold z at h; linarith! [eps_pos]), inv_log2,
    log2_inv_sigma, ← EReal.coe_mul, ← EReal.coe_sub, ← EReal.coe_mul]
  congr 1
  show (lg (blockPic x) 0 n * (Real.log 2)⁻¹ - lg (blockPic x) 2 n * (Real.log 2)⁻¹) * (50 * Real.log 2) = _
  field_simp

omit hw

/-- The kernel of a scaled difference, at the centre of bin `k`. -/
theorem bin_at (a : ℝ) (k : ℕ) (h : k < 64) :
    Ideal.div 1 ((((50 * a : ℝ) : EReal) - (FloatOps.sitofp (F := Ideal) FTy.f32 (BitVec.ofNat 32 k) * Named.named (F := Ideal) κ "delta_step" (φ := .f32) 0x3DC30C31#32
        - Ideal.ofBits .f32 0x40400000#32) * Ideal.ofBits .f32 0x42480000#32)
      * (((50 * a : ℝ) : EReal) - (FloatOps.sitofp (F := Ideal) FTy.f32 (BitVec.ofNat 32 k) * Named.named (F := Ideal) κ "delta_step" (φ := .f32) 0x3DC30C31#32
        - Ideal.ofBits .f32 0x40400000#32) * Ideal.ofBits .f32 0x42480000#32) + 1)
      = (kap (a - dl ⟨k, h⟩) : EReal) := by
  rw [nat_coe _ (by omega), delta_step, bits_three, bits_fifty, show (1 : EReal) = ((1 : ℝ) : EReal) from rfl]
  simp only [← EReal.coe_mul, ← EReal.coe_sub, ← EReal.coe_add]
  rw [div_real _ _ (add_pos_of_nonneg_of_pos (mul_self_nonneg _) one_pos).ne']
  congr 1
  unfold kap dl
  congr 1
  ring

include hw

/-- The first quadrant of the product is the first histogram. -/
theorem gram_00 (i j : Fin 64) : gram x w (ix2 ⟨i, by omega⟩ ⟨j, by omega⟩) = (hist (blockPic x) 0 i j : EReal) := by
  pointwise [gram, k0_pay17, k0_pay16]
  simp only [dif_pos i.isLt, dif_pos j.isLt, pay12_at x w hw, pay14_at x w hw, pay15_at x w hw, bin_at _ _ i.isLt, bin_at _ _ j.isLt,
    ← EReal.coe_mul, coe_sum]
  rw [← hist0_eq]

/-- The second quadrant is the second histogram with its rows reversed. -/
theorem gram_01 (i j : Fin 64) : gram x w (ix2 ⟨i, by omega⟩ ⟨64 + j, by omega⟩) = (hist (blockPic x) 1 i.rev j : EReal) := by
  pointwise [gram, k0_pay17, k0_pay16]
  simp only [dif_pos i.isLt, dif_neg (show ¬ 64 + (j : ℕ) < 64 by omega), show 64 + (j : ℕ) - 64 = j by omega,
    pay12_at x w hw, pay14_at x w hw, pay15_at x w hw, ← EReal.coe_sub,
    show ∀ n, 50 * (lg (blockPic x) 0 n - lg (blockPic x) 2 n) - 50 * (lg (blockPic x) 0 n - lg (blockPic x) 1 n)
      = 50 * (lg (blockPic x) 1 n - lg (blockPic x) 2 n) from fun n => by ring,
    bin_at _ _ i.isLt, bin_at _ _ j.isLt, ← EReal.coe_mul, coe_sum]
  rw [← hist1_rev]

/-- The fourth quadrant is the third histogram with its rows and columns reversed. -/
theorem gram_11 (i j : Fin 64) :
    gram x w (ix2 ⟨64 + i, by omega⟩ ⟨64 + j, by omega⟩) = (hist (blockPic x) 2 i.rev j.rev : EReal) := by
  pointwise [gram, k0_pay17, k0_pay16]
  simp only [dif_neg (show ¬ 64 + (i : ℕ) < 64 by omega), show 64 + (i : ℕ) - 64 = i by omega,
    dif_neg (show ¬ 64 + (j : ℕ) < 64 by omega), show 64 + (j : ℕ) - 64 = j by omega,
    pay12_at x w hw, pay14_at x w hw, pay15_at x w hw, ← EReal.coe_sub,
    show ∀ n, 50 * (lg (blockPic x) 0 n - lg (blockPic x) 2 n) - 50 * (lg (blockPic x) 0 n - lg (blockPic x) 1 n)
      = 50 * (lg (blockPic x) 1 n - lg (blockPic x) 2 n) from fun n => by ring,
    bin_at _ _ i.isLt, bin_at _ _ j.isLt, ← EReal.coe_mul, coe_sum]
  rw [← hist2_rev]

end Cert.KernelIdeal.Values
-- ==== Proof.KernelStep.lean ====
module

public import proofs.«01_k».proof.Proof.KernelGram
public import Idealize.ShloMosaic.Lib.Pointwise
public import Idealize.ShloMosaic.Lib.Tactic

@[expose] public section

set_option maxRecDepth 16384

noncomputable section

namespace Cert.KernelIdeal.Values

open Idealize.ShloMosaic
open Cert.KernelIdeal Cert.KernelIdeal.Gen Cert.KernelIdeal.Block
open Cert.Consts Cert.Scalars Cert.Model

/-- The squared difference of the roots of a target entry and of a normalised histogram entry. -/
def gap (p : Fin 3 → Fin 512 → Fin 512 → ℝ) (y : Fin 3 → Fin 64 → Fin 64 → EReal) (h : Fin 3) (i j : Fin 64) : EReal :=
  (Ideal.sqrt (y h i j) - Ideal.sqrt (Ideal.div (hist p h i j : EReal) ((nrm p + eps : ℝ) : EReal)))
    * (Ideal.sqrt (y h i j) - Ideal.sqrt (Ideal.div (hist p h i j : EReal) ((nrm p + eps : ℝ) : EReal)))

/-- The three tables of the target side by side. -/
def beside (t : Vec Ideal S3x64x64 .f32) (i : Fin 64) (j : Fin 192) : EReal :=
  if h : (j : ℕ) < 64 then t (ix3 0 i ⟨j, h⟩)
  else if h : (j : ℕ) - 64 < 64 then t (ix3 1 i ⟨(j : ℕ) - 64, h⟩) else t (ix3 2 i ⟨(j : ℕ) - 64 - 64, by omega⟩)

variable (t : Vec Ideal S3x64x64 .f32) (y : Fin 3 → Fin 64 → Fin 64 → EReal)

/-- Column by column: the first table, the second, the third. -/
theorem beside_0 (h0 : ∀ i j, t (ix3 0 i j) = y 0 i j) (i j : Fin 64) : beside t i ⟨j, by omega⟩ = y 0 i j := by
  unfold beside
  rw [dif_pos (show ((⟨j, _⟩ : Fin 192) : ℕ) < 64 from j.isLt)]
  exact h0 i j
theorem beside_1 (h1 : ∀ i j, t (ix3 1 i j) = y 1 i.rev j) (i j : Fin 64) : beside t i ⟨64 + j, by omega⟩ = y 1 i.rev j := by
  unfold beside
  rw [dif_neg (show ¬ 64 + (j : ℕ) < 64 by omega), dif_pos (show 64 + (j : ℕ) - 64 < 64 by omega), ← h1]
  congr 2; apply Fin.ext; show 64 + (j : ℕ) - 64 = j; omega
theorem beside_2 (h2 : ∀ i j, t (ix3 2 i j) = y 2 i.rev j.rev) (i j : Fin 64) :
    beside t i ⟨128 + j, by omega⟩ = y 2 i.rev j.rev := by
  unfold beside
  rw [dif_neg (show ¬ 128 + (j : ℕ) < 64 by omega), dif_neg (show ¬ 128 + (j : ℕ) - 64 < 64 by omega), ← h2]
  congr 2; apply Fin.ext; show 128 + (j : ℕ) - 64 - 64 = j; omega

variable (x : Vec Ideal S1x3x512x512 .f32) (w : Vec Ideal S512x256 .f32) (hw : ∀ r i, w (ix2 r i) = (W r i : EReal))

include hw

/-- The three histograms side by side, cut from the product. -/
theorem pay18_0 (i j : Fin 64) : k0_pay18 (gram x w) (ix2 i ⟨j, by omega⟩) = (hist (blockPic x) 0 i j : EReal) := by
  pointwise [k0_pay18]
  exact gram_00 x w hw i j
theorem pay18_1 (i j : Fin 64) : k0_pay18 (gram x w) (ix2 i ⟨64 + j, by omega⟩) = (hist (blockPic x) 1 i.rev j : EReal) := by
  pointwise [k0_pay18]
  exact gram_01 x w hw i j
theorem pay18_2 (i j : Fin 64) : k0_pay18 (gram x w) (ix2 i ⟨128 + j, by omega⟩) = (hist (blockPic x) 2 i.rev j.rev : EReal) := by
  pointwise [k0_pay18]
  rw [dif_neg (show ¬ 128 + (j : ℕ) < 64 by omega), dif_neg (show ¬ 128 + (j : ℕ) - 64 < 64 by omega), ← gram_11 x w hw]
  congr 2; apply Fin.ext; show 64 + (128 + (j : ℕ) - 64 - 64) = 64 + j; omega

/-- One point adds to the running sum the squared distance of the roots of its picture's normalised
histograms and of the target, whose second table the kernel holds with its rows reversed and whose third
with its rows and columns reversed. -/
theorem step_at (h0 : ∀ i j, t (ix3 0 i j) = y 0 i j) (h1 : ∀ i j, t (ix3 1 i j) = y 1 i.rev j)
    (h2 : ∀ i j, t (ix3 2 i j) = y 2 i.rev j.rev) (hb : ∀ h i j, y h i j ≠ ⊥) (ht : ∀ h i j, y h i j ≠ ⊤)
    (s : Vec Ideal S1x1 .f32) :
    step x w t s (ix2 0 0) = s (ix2 0 0) + ∑ h, ∑ i, ∑ j, gap (blockPic x) y h i j := by
  have e1 : ∑ i, ∑ j, beside t i j = ∑ h, ∑ i, ∑ j, y h i j :=
    sum_three _ y (beside_0 t y h0) (beside_1 t y h1) (beside_2 t y h2)
  have e2 : ∑ i, ∑ j, k0_pay18 (gram x w) (ix2 i j) = (nrm (blockPic x) : EReal) := by
    rw [sum_three (fun i j => k0_pay18 (gram x w) (ix2 i j)) (fun h i j => (hist (blockPic x) h i j : EReal))
      (pay18_0 x w hw) (pay18_1 x w hw) (pay18_2 x w hw)]
    simp only [coe_sum]
    rfl
  have e3 : ∑ i, ∑ j, Ideal.sqrt (k0_pay18 (gram x w) (ix2 i j) * beside t i j)
      = ∑ h, ∑ i, ∑ j, Ideal.sqrt ((hist (blockPic x) h i j : EReal) * y h i j) := by
    refine sum_three _ (fun h i j => Ideal.sqrt ((hist (blockPic x) h i j : EReal) * y h i j)) ?_ ?_ ?_
    · intro i j; rw [pay18_0 x w hw, beside_0 t y h0]
    · intro i j; rw [pay18_1 x w hw, beside_1 t y h1]
    · intro i j; rw [pay18_2 x w hw, beside_2 t y h2]
  have key := contribution (ι := Fin 3 × Fin 64 × Fin 64) (fun k => hist (blockPic x) k.1 k.2.1 k.2.2) (fun k => y k.1 k.2.1 k.2.2)
    (nrm (blockPic x) + eps) (add_pos (nrm_pos _) eps_pos) (fun k => hist_pos _ _ _ _) (fun k => hb _ _ _) (fun k => ht _ _ _)
  simp only [Fintype.sum_prod_type] at key
  pointwise [step, k0_pay2, k0_pay19, k0_pay20, tb0, tb1, tb2, View.ld]
  have hd : ∀ (i : Fin 64) (j : Fin 192),
      (if h : (j : ℕ) < 64 then t (ix3 0 i ⟨j, h⟩)
        else if h : (j : ℕ) - 64 < 64 then t (ix3 1 i ⟨(j : ℕ) - 64, h⟩) else t (ix3 2 i ⟨(j : ℕ) - 64 - 64, by omega⟩))
      = beside t i j := fun _ _ => rfl
  simp only [hd]
  rw [e1, e2, e3, bits_eps, bits_two, ← EReal.coe_add]
  exact congrArg _ key

end Cert.KernelIdeal.Values
-- ==== Proof.KernelFold.lean ====
module

public import proofs.«01_k».proof.Proof.KernelStep
public import proofs.«01_k».proof.Proof.KernelHost
public import Idealize.ShloMosaic.Lib.Pointwise
public import Idealize.ShloMosaic.Lib.Tactic

@[expose] public section

set_option maxRecDepth 16384

noncomputable section

namespace Cert.KernelIdeal.Values

open Idealize.ShloMosaic Idealize.ShloMosaic.TcCoe
open Cert.KernelIdeal Cert.KernelIdeal.Gen Cert.KernelIdeal.Host Cert.KernelIdeal.Block Cert.KernelIdeal.Value
open Cert.Consts Cert.Scalars Cert.Model

variable (m : (ℓ : Loc nD τ sig) → Buf (Elt Ideal) ℓ)

/-- The three tables of the target as the kernel is given them: the second with its rows reversed, the third
with its rows and columns reversed. -/
theorem targets_0 (y : Vec Ideal S3x64x64 .f32) (i j : Fin 64) : targets y (ix3 0 i j) = y (ix3 0 i j) := by
  pointwise [targets]
theorem targets_1 (y : Vec Ideal S3x64x64 .f32) (i j : Fin 64) : targets y (ix3 1 i j) = y (ix3 1 i.rev j) := by
  pointwise [targets]
  simp
theorem targets_2 (y : Vec Ideal S3x64x64 .f32) (i j : Fin 64) : targets y (ix3 2 i j) = y (ix3 2 i.rev j.rev) := by
  pointwise [targets]
  simp

/-- Where the blocks of the three inputs lie, over the eight points. -/
theorem index_0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 3) = 0 ∧ win0_2.index t (1 : Fin 3) = 0
    ∧ win0_2.index t (2 : Fin 3) = 0 :=
  (by decide +kernel : ∀ t : Fin grid0.N, _)

/-- The picture and the target, in the arguments. -/
abbrev image (c : Dev nD) : Vec Ideal S8x4x512x512 .f32 := m ((c : Thread nD τ).loc main_arg0)
abbrev target (c : Dev nD) : Vec Ideal S3x64x64 .f32 := m ((c : Thread nD τ).loc main_arg1)

/-- The image block of a point is its picture's first three channels. -/
theorem block_image (c : Dev nD) (t : Fin cfg0.N) (k : Fin 3) (r s : Fin 512) :
    (X0_0 m c t : Vec Ideal S1x3x512x512 .f32) (ix4 0 k r s)
      = image m c (ix4 ⟨t.val, lt_of_lt_of_eq t.isLt N_0⟩ ⟨k, by omega⟩ r s) := by
  unfold X0_0 Pipeline.Window.fill
  rw [dif_pos (moved0_0 t _)]
  unfold iblk
  rw [View.read_apply]
  change V m c main_arg0 _ = _
  rw [V_main_arg0]
  obtain ⟨e0, e1, e2, e3⟩ := index_0 t
  congr 1
  funext a; apply Fin.ext
  match a with
  | ⟨0, _⟩ => show win0_0.index t (0 : Fin 4) * 1 + 1 * 0 = t.val; rw [e0]; omega
  | ⟨1, _⟩ => show win0_0.index t (1 : Fin 4) * 3 + 1 * k.val = k.val; rw [e1]; omega
  | ⟨2, _⟩ => show win0_0.index t (2 : Fin 4) * 512 + 1 * r.val = r.val; rw [e2]; omega
  | ⟨3, _⟩ => show win0_0.index t (3 : Fin 4) * 512 + 1 * s.val = s.val; rw [e3]; omega

/-- The weight block of a point is the whole table of weights. -/
theorem block_weights (c : Dev nD) (t : Fin cfg0.N) (r : Fin 512) (i : Fin 256) :
    (iblk m c 1 t : Vec Ideal S512x256 .f32) (ix2 r i) = weights (F := Ideal) (ix2 r i) := by
  unfold iblk
  rw [View.read_apply]
  change V m c main_v49 _ = _
  rw [V_weights]
  obtain ⟨e0, e1⟩ := index_1 t
  congr 1
  funext a; apply Fin.ext
  match a with
  | ⟨0, _⟩ => show win0_1.index t (0 : Fin 2) * 512 + 1 * r.val = r.val; rw [e0]; omega
  | ⟨1, _⟩ => show win0_1.index t (1 : Fin 2) * 256 + 1 * i.val = i.val; rw [e1]; omega

/-- The target block of a point is the whole target, as the kernel is given it. -/
theorem block_target (c : Dev nD) (t : Fin cfg0.N) (h : Fin 3) (i j : Fin 64) :
    (iblk m c 2 t : Vec Ideal S3x64x64 .f32) (ix3 h i j) = targets (target m c) (ix3 h i j) := by
  unfold iblk
  rw [View.read_apply]
  change V m c main_v11 _ = _
  rw [V_targets]
  obtain ⟨e0, e1, e2⟩ := index_2 t
  congr 1
  funext a; apply Fin.ext
  match a with
  | ⟨0, _⟩ => show win0_2.index t (0 : Fin 3) * 3 + 1 * h.val = h.val; rw [e0]; omega
  | ⟨1, _⟩ => show win0_2.index t (1 : Fin 3) * 64 + 1 * i.val = i.val; rw [e1]; omega
  | ⟨2, _⟩ => show win0_2.index t (2 : Fin 3) * 64 + 1 * j.val = j.val; rw [e2]; omega

/-- What point `t` adds to the running sum. -/
def part (c : Dev nD) (t : Fin cfg0.N) : EReal :=
  ∑ h, ∑ i, ∑ j, gap (blockPic (X0_0 m c t)) (fun h i j => target m c (ix3 h i j)) h i j

variable (c : Dev nD) (hb : ∀ h i j, target m c (ix3 h i j) ≠ ⊥) (ht : ∀ h i j, target m c (ix3 h i j) ≠ ⊤)

include hb ht

/-- One point adds its part. -/
theorem step_block (t : Fin cfg0.N) (s : Vec Ideal S1x1 .f32) :
    step (X0_0 m c t) (iblk m c 1 t) (iblk m c 2 t) s (ix2 0 0) = s (ix2 0 0) + part m c t :=
  step_at (iblk m c 2 t) (fun h i j => target m c (ix3 h i j)) (X0_0 m c t) (iblk m c 1 t)
    (fun r i => (block_weights m c t r i).trans (weights_at r i))
    (fun i j => (block_target m c t 0 i j).trans (targets_0 _ i j))
    (fun i j => (block_target m c t 1 i j).trans (targets_1 _ i j))
    (fun i j => (block_target m c t 2 i j).trans (targets_2 _ i j)) hb ht s

/-- The running sum after each point but the last. -/
theorem running (n : ℕ) (hn : n < cfg0.N) (h7 : n < 7) :
    (outsAt0 m c n hn).2 (ix2 0 0) = ∑ k : Fin (n + 1), part m c ⟨k, lt_of_lt_of_le k.isLt hn⟩ := by
  induction n with
  | zero =>
    rw [outsAt0_zero, stAt0_A m c ⟨0, hn⟩ _ rfl (by dsimp only; omega), sout0_A_4_eq]
    dsimp only
    rw [step_block m c hb ht, Fin.sum_univ_one,
      show k0_pay1 (F := Ideal) (ix2 0 0) = 0 from Ideal.ofBits_zero_f32, zero_add]
    rfl
  | succ n ih =>
    rw [outsAt0_succ, stAt0_B m c ⟨n + 1, hn⟩ _ (by dsimp only; omega) (by dsimp only; omega), sout0_B_4_eq]
    dsimp only
    rw [step_block m c hb ht, Fin.sum_univ_castSucc, ih (Nat.lt_of_succ_lt hn) (by omega)]
    rfl

/-- The kernel's result: the root of the sum over the eight points, times the rounded 1/√2 over eight. -/
theorem result_at :
    G3 m c (ix2 0 0) = Ideal.div (wl : EReal) ((8 : ℝ) : EReal)
      * Ideal.sqrt (∑ k : Fin 8, part m c ⟨k, lt_of_lt_of_eq k.isLt N_0.symm⟩) := by
  have h7 : 7 < cfg0.N := lt_of_lt_of_eq (by decide) N_0.symm
  rw [G3_last, ← outsAt0_sweep m c 7 h7, outsAt0_succ, stAt0_C m c ⟨7, h7⟩ _ (by dsimp only; omega) rfl, out0_C_3_eq]
  have e : ∀ v : Vec Ideal S1x1 .f32, k0_pay3 v (ix2 0 0) = Ideal.div (wl : EReal) ((8 : ℝ) : EReal) * Ideal.sqrt (v (ix2 0 0)) := by
    intro v
    pointwise [k0_pay3]
    rw [bits_wl, bits_eight]
  dsimp only
  rw [e, step_block m c hb ht, running m c hb ht 6 (Nat.lt_of_succ_lt h7) (by decide),
    Fin.sum_univ_castSucc (n := 7)]
  rfl

end Cert.KernelIdeal.Values
-- ==== Proof.RefValue.lean ====
module

public import proofs.«01_k».proof.Proof.Gen.ReferenceIdeal.Read
public import proofs.«01_k».proof.Proof.Consts
public import proofs.«01_k».proof.Proof.Scalars
public import Idealize.ShloMosaic.Lib.Pointwise
public import Idealize.ShloMosaic.Lib.Tactic

@[expose] public section

set_option maxRecDepth 16384

noncomputable section

namespace Cert.ReferenceIdeal.Values

open Idealize.ShloMosaic
open Cert.ReferenceIdeal Cert.ReferenceIdeal.Read
open Cert.Consts Cert.Scalars Cert.Model

/-- Picture `b` of the batch, its three colour channels clipped to [-1, 1]. -/
def pic (x0 : Vec Ideal S8x4x512x512 .f32) (b : Fin 8) : Fin 3 → Fin 512 → Fin 512 → ℝ :=
  fun c r s => cl (x0 (ix4 b ⟨c, by omega⟩ r s))

/-- Its pixels are at least -1. -/
theorem pic_ge (x0 : Vec Ideal S8x4x512x512 .f32) (b : Fin 8) (c : Fin 3) (r s : Fin 512) : -1 ≤ pic x0 b c r s := cl_ge _

variable (x0 : Vec Ideal S8x4x512x512 .f32) (x1 : Vec Ideal S3x64x64 .f32)

/-- A pixel moved to [0, 1] and clipped. -/
theorem v5_at (b : Fin 8) (c : Fin 3) (r s : Fin 512) :
    val_main_v5 (F := Ideal) x0 (ix4 b c r s) = ((1 / 2 * pic x0 b c r s + 1 / 2 : ℝ) : EReal) := by
  pointwise [val_main_v5, val_main_v4, val_main_v3, val_main_v2, val_main_v1, val_main_v0, val_main_call0_v4, val_main_call0_v3, val_main_call0_v2, val_main_call0_v1, val_main_call0_v0, val_main_cst_1, val_main_cst_2, val_main_cst_3, val_main_cst_4]
  rw [bits_half]
  change min (Ideal.ofBits .f32 0x3F800000#32) (max (Ideal.ofBits .f32 0x00000000#32) _) = _
  rw [Ideal.ofBits_one_f32, Ideal.ofBits_zero_f32]
  exact half_clip _

/-- The centre of an output pixel. -/
theorem v21_at (i : Fin 256) :
    val_main_v21 (F := Ideal) (ix1 i) = (((((i : ℕ) : ℝ) + 1 / 2) * 2 - 1 / 2 : ℝ) : EReal) := by
  pointwise [val_main_v21, val_main_v20, val_main_v19, val_main_v18, val_main_v17, val_main_v16, val_main_v15, val_main_v14, val_main_v13, val_main_v12, val_main_v10, val_main_v9, val_main_v8, val_main_v7, val_main_v6, val_main_cst, val_main_cst_0, val_main_cst_5, val_main_cst_7, val_main_cst_8]
  rw [nat_coe _ (by omega), bits_half, show (1 : EReal) = ((1 : ℝ) : EReal) from rfl, div_real _ _ (by norm_num), zero_mul, sub_zero,
    ← EReal.coe_add, ← EReal.coe_mul, ← EReal.coe_sub]
  congr 1; ring

/-- The triangle around it. -/
theorem v35_at (r : Fin 512) (i : Fin 256) : val_main_v35 (F := Ideal) (ix2 r i) = (tri r i : EReal) := by
  pointwise [val_main_v35, val_main_v34, val_main_v33, val_main_v32, val_main_v31, val_main_v30, val_main_v29, val_main_v28, val_main_v27, val_main_v26, val_main_v25, val_main_v24, val_main_v23, val_main_v22, val_main_v11, val_main_v10, val_main_v7, val_main_v6, val_main_cst_10, val_main_cst_9, val_main_cst, val_main_cst_5, val_main_cst_6]
  rw [v21_at, nat_coe _ (by omega), bits_half, show (1 : EReal) = ((1 : ℝ) : EReal) from rfl, show (0 : EReal) = ((0 : ℝ) : EReal) from rfl,
    div_real _ _ (by norm_num), coe_max, ← EReal.coe_sub, absf_coe, div_real _ _ (by norm_num), absf_coe, ← EReal.coe_sub, coe_max]
  congr 1
  rw [show max (1 / (1 / 2 : ℝ)) 1 = 2 by norm_num, abs_of_nonneg (by positivity)]
  rfl

/-- The resize weights. -/
theorem v53_at (r : Fin 512) (i : Fin 256) : val_main_v53 (F := Ideal) (ix2 r i) = (W r i : EReal) := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_call3_v1, val_main_call1_v0, val_main_call1_v1, val_main_call2_v0, val_main_call2_v1, val_main_call2_v2, val_main_call3_v2, val_main_call3_v0, val_main_cst_11, val_main_cst_12, val_main_cst_13, val_main_c, val_main_c_14, val_main_cst_15, val_main_cst_16, val_main_c_17]
  simp only [v35_at, v21_at, coe_sum, bits_neg_half, bits_top_sample, bits_small, show ∑ x, tri x i = tot i from rfl, absf_coe,
    abs_of_pos (tot_pos i)]
  have ht := tot_ge i
  have hi : ((i : ℕ) : ℝ) ≤ 255 := by exact_mod_cast (by omega : (i : ℕ) ≤ 255)
  have h0 : (0 : ℝ) ≤ ((i : ℕ) : ℝ) := Nat.cast_nonneg _
  rw [if_pos (by exact_mod_cast lt_of_lt_of_le (by norm_num) ht),
    if_pos (by exact_mod_cast (tot_pos i).ne'), div_real _ _ (tot_pos i).ne',
    decide_eq_true (by exact_mod_cast (by linarith : (-(1 / 2) : ℝ) ≤ (((i : ℕ) : ℝ) + 1 / 2) * 2 - 1 / 2)),
    decide_eq_true (by exact_mod_cast (by linarith : (((i : ℕ) : ℝ) + 1 / 2) * 2 - 1 / 2 ≤ (1023 / 2 : ℝ)))]
  rfl

/-- The weights along the columns are those along the rows. -/
theorem v101_at (r : Fin 512) (i : Fin 256) : val_main_v101 (F := Ideal) (ix2 r i) = (W r i : EReal) :=
  (congrFun (rfl : val_main_v101 (F := Ideal) = val_main_v53) _).trans (v53_at r i)

/-- The resized channel at a pixel. -/
theorem v106_at (b : Fin 8) (c : Fin 3) (n : Fin 65536) :
    val_main_v106 (F := Ideal) x0 (ix3 b n c) = (z (pic x0 b) c n : EReal) := by
  pointwise [val_main_v106, val_main_v105, val_main_v104, val_main_v103, val_main_v102]
  simp only [v53_at, v101_at, v5_at, ← EReal.coe_mul, coe_sum]
  congr 1
  exact rsz_affine (pic x0 b c) (row n) (col n)

/-- The intensity of a pixel. -/
theorem v119_at (b : Fin 8) (n : Fin 65536) : val_main_v119 (F := Ideal) x0 (ix3 b n 0) = (iy (pic x0 b) n : EReal) := by
  pointwise [val_main_v119, val_main_v118, val_main_v117, val_main_v116, val_main_v115, val_main_v114, val_main_v113, val_main_v112, val_main_v111, val_main_v110, val_main_v109, val_main_v108, val_main_v107, val_main_cst_32]
  simp only [v106_at, bits_eps, ← EReal.coe_mul, ← EReal.coe_add]
  exact sqrt_real _ (by nlinarith [eps_pos, mul_self_nonneg (z (pic x0 b) 0 n), mul_self_nonneg (z (pic x0 b) 1 n), mul_self_nonneg (z (pic x0 b) 2 n)])

/-- The bin centres. -/
theorem v121_at (i : Fin 64) : val_main_v121 (F := Ideal) (ix3 0 0 i) = (dl i : EReal) := by
  pointwise [val_main_v121, val_main_v120, val_main_call7_v16, val_main_call7_v15, val_main_call7_v14, val_main_call7_v13, val_main_call7_v12, val_main_call7_v11, val_main_call7_v10, val_main_call7_v9, val_main_call7_v8, val_main_call7_v7, val_main_call7_v6, val_main_call7_v5, val_main_call7_v4, val_main_call7_v1, val_main_call7_v0, val_main_call7_cst_0, val_main_call7_cst_1, val_main_cst_33, val_main_cst_34]
  simp only [id_eq, constant, pointwise]
  have e1 : FloatOps.ofBits (F := Ideal) .f32 0x40400000#32 = ((3 : ℝ) : EReal) := bits_three
  have e2 : FloatOps.ofBits (F := Ideal) .f32 0xC0400000#32 = ((-3 : ℝ) : EReal) := bits_neg_three
  try rw [e1, e2]
  try rw [bits_three, bits_neg_three]
  rw [nat_coe _ (by omega), bits_sixty_three, show (1 : EReal) = ((1 : ℝ) : EReal) from rfl, div_real _ _ (by norm_num),
    ← EReal.coe_sub, ← EReal.coe_mul, ← EReal.coe_mul, ← EReal.coe_add]
  unfold dl
  split_ifs with h
  · congr 1; ring
  · have : (i : ℕ) = 63 := by omega
    rw [this]; congr 1; norm_num

/-- The logarithm of a channel, as the programs take it. -/
theorem log_at (b : Fin 8) (c : Fin 3) (n : Fin 65536) :
    Ideal.log (val_main_v106 (F := Ideal) x0 (ix3 b n c) + Ideal.ofBits .f32 0x358637BD#32) = (lg (pic x0 b) c n : EReal) := by
  rw [v106_at, bits_eps, ← EReal.coe_add]
  exact log_real _ (by linarith [eps_pos, z_nonneg (pic x0 b) (pic_ge x0 b) c n])

/-- The kernel of a difference, as the programs take it. -/
theorem kap_at (a d : ℝ) :
    Ideal.div 1 (1 + FloatOps.absf (F := Ideal) (φ := .f32) ((a : EReal) - (d : EReal)) * FloatOps.absf (F := Ideal) (φ := .f32) ((a : EReal) - (d : EReal))
      * Ideal.ofBits .f32 0x451C4000#32) = (kap (a - d) : EReal) := by
  rw [← EReal.coe_sub, absf_coe, bits_2500, show (1 : EReal) = ((1 : ℝ) : EReal) from rfl, ← EReal.coe_mul, ← EReal.coe_mul, ← EReal.coe_add,
    abs_mul_abs_self, div_real _ _ (by nlinarith [mul_self_nonneg (a - d)])]
  rfl

/-- The three differences and kernels of histogram 0: channel 0 against channels 1 and 2. -/
theorem v133_at (b : Fin 8) (n : Fin 65536) :
    val_main_v133 (F := Ideal) x0 (ix3 b n 0) = ((lg (pic x0 b) 0 n - lg (pic x0 b) 1 n : ℝ) : EReal) := by
  pointwise [val_main_v133, val_main_v132, val_main_v131, val_main_v130, val_main_v129, val_main_v128, val_main_v127, val_main_v126, val_main_v125, val_main_v124, val_main_v123, val_main_v122, val_main_cst_35, val_main_cst_36]
  rw [log_at, log_at, ← EReal.coe_sub]
theorem v145_at (b : Fin 8) (n : Fin 65536) :
    val_main_v145 (F := Ideal) x0 (ix3 b n 0) = ((lg (pic x0 b) 0 n - lg (pic x0 b) 2 n : ℝ) : EReal) := by
  pointwise [val_main_v145, val_main_v144, val_main_v143, val_main_v142, val_main_v141, val_main_v140, val_main_v139, val_main_v138, val_main_v137, val_main_v136, val_main_v135, val_main_v134, val_main_cst_37, val_main_cst_38]
  rw [log_at, log_at, ← EReal.coe_sub]
theorem v160_at (b : Fin 8) (n : Fin 65536) (i : Fin 64) :
    val_main_v160 (F := Ideal) x0 (ix3 b n i) = (kap (lg (pic x0 b) 0 n - lg (pic x0 b) 1 n - dl i) : EReal) := by
  pointwise [val_main_v160, val_main_v159, val_main_v158, val_main_v157, val_main_v156, val_main_v155, val_main_v154, val_main_v149, val_main_v148, val_main_v147, val_main_v146, val_main_cst_39, val_main_cst_40, val_main_cst_41]
  rw [v133_at, v121_at]
  exact kap_at _ _
theorem v167_at (b : Fin 8) (n : Fin 65536) (i : Fin 64) :
    val_main_v167 (F := Ideal) x0 (ix3 b n i) = (kap (lg (pic x0 b) 0 n - lg (pic x0 b) 2 n - dl i) : EReal) := by
  pointwise [val_main_v167, val_main_v166, val_main_v165, val_main_v164, val_main_v163, val_main_v162, val_main_v161, val_main_v153, val_main_v152, val_main_v151, val_main_v150, val_main_cst_42, val_main_cst_43, val_main_cst_44]
  rw [v145_at, v121_at]
  exact kap_at _ _
/-- Histogram 0. -/
theorem v171_at (b : Fin 8) (i j : Fin 64) :
    val_main_v171 (F := Ideal) x0 (ix3 b i j) = (H (pic x0 b) 0 1 2 i j : EReal) := by
  pointwise [val_main_v171, val_main_v170, val_main_v169, val_main_v168]
  simp only [v119_at, v160_at, v167_at, ← EReal.coe_mul, coe_sum]
  rfl

/-- The three differences and kernels of histogram 1: channel 1 against channels 0 and 2. -/
theorem v183_at (b : Fin 8) (n : Fin 65536) :
    val_main_v183 (F := Ideal) x0 (ix3 b n 0) = ((lg (pic x0 b) 1 n - lg (pic x0 b) 0 n : ℝ) : EReal) := by
  pointwise [val_main_v183, val_main_v182, val_main_v181, val_main_v180, val_main_v179, val_main_v178, val_main_v177, val_main_v176, val_main_v175, val_main_v174, val_main_v173, val_main_v172, val_main_cst_45, val_main_cst_46]
  rw [log_at, log_at, ← EReal.coe_sub]
theorem v195_at (b : Fin 8) (n : Fin 65536) :
    val_main_v195 (F := Ideal) x0 (ix3 b n 0) = ((lg (pic x0 b) 1 n - lg (pic x0 b) 2 n : ℝ) : EReal) := by
  pointwise [val_main_v195, val_main_v194, val_main_v193, val_main_v192, val_main_v191, val_main_v190, val_main_v189, val_main_v188, val_main_v187, val_main_v186, val_main_v185, val_main_v184, val_main_cst_47, val_main_cst_48]
  rw [log_at, log_at, ← EReal.coe_sub]
theorem v210_at (b : Fin 8) (n : Fin 65536) (i : Fin 64) :
    val_main_v210 (F := Ideal) x0 (ix3 b n i) = (kap (lg (pic x0 b) 1 n - lg (pic x0 b) 0 n - dl i) : EReal) := by
  pointwise [val_main_v210, val_main_v209, val_main_v208, val_main_v207, val_main_v206, val_main_v205, val_main_v204, val_main_v199, val_main_v198, val_main_v197, val_main_v196, val_main_cst_49, val_main_cst_50, val_main_cst_51]
  rw [v183_at, v121_at]
  exact kap_at _ _
theorem v217_at (b : Fin 8) (n : Fin 65536) (i : Fin 64) :
    val_main_v217 (F := Ideal) x0 (ix3 b n i) = (kap (lg (pic x0 b) 1 n - lg (pic x0 b) 2 n - dl i) : EReal) := by
  pointwise [val_main_v217, val_main_v216, val_main_v215, val_main_v214, val_main_v213, val_main_v212, val_main_v211, val_main_v203, val_main_v202, val_main_v201, val_main_v200, val_main_cst_52, val_main_cst_53, val_main_cst_54]
  rw [v195_at, v121_at]
  exact kap_at _ _
/-- Histogram 1. -/
theorem v221_at (b : Fin 8) (i j : Fin 64) :
    val_main_v221 (F := Ideal) x0 (ix3 b i j) = (H (pic x0 b) 1 0 2 i j : EReal) := by
  pointwise [val_main_v221, val_main_v220, val_main_v219, val_main_v218]
  simp only [v119_at, v210_at, v217_at, ← EReal.coe_mul, coe_sum]
  rfl

/-- The three differences and kernels of histogram 2: channel 2 against channels 0 and 1. -/
theorem v233_at (b : Fin 8) (n : Fin 65536) :
    val_main_v233 (F := Ideal) x0 (ix3 b n 0) = ((lg (pic x0 b) 2 n - lg (pic x0 b) 0 n : ℝ) : EReal) := by
  pointwise [val_main_v233, val_main_v232, val_main_v231, val_main_v230, val_main_v229, val_main_v228, val_main_v227, val_main_v226, val_main_v225, val_main_v224, val_main_v223, val_main_v222, val_main_cst_55, val_main_cst_56]
  rw [log_at, log_at, ← EReal.coe_sub]
theorem v245_at (b : Fin 8) (n : Fin 65536) :
    val_main_v245 (F := Ideal) x0 (ix3 b n 0) = ((lg (pic x0 b) 2 n - lg (pic x0 b) 1 n : ℝ) : EReal) := by
  pointwise [val_main_v245, val_main_v244, val_main_v243, val_main_v242, val_main_v241, val_main_v240, val_main_v239, val_main_v238, val_main_v237, val_main_v236, val_main_v235, val_main_v234, val_main_cst_57, val_main_cst_58]
  rw [log_at, log_at, ← EReal.coe_sub]
theorem v260_at (b : Fin 8) (n : Fin 65536) (i : Fin 64) :
    val_main_v260 (F := Ideal) x0 (ix3 b n i) = (kap (lg (pic x0 b) 2 n - lg (pic x0 b) 0 n - dl i) : EReal) := by
  pointwise [val_main_v260, val_main_v259, val_main_v258, val_main_v257, val_main_v256, val_main_v255, val_main_v254, val_main_v249, val_main_v248, val_main_v247, val_main_v246, val_main_cst_59, val_main_cst_60, val_main_cst_61]
  rw [v233_at, v121_at]
  exact kap_at _ _
theorem v267_at (b : Fin 8) (n : Fin 65536) (i : Fin 64) :
    val_main_v267 (F := Ideal) x0 (ix3 b n i) = (kap (lg (pic x0 b) 2 n - lg (pic x0 b) 1 n - dl i) : EReal) := by
  pointwise [val_main_v267, val_main_v266, val_main_v265, val_main_v264, val_main_v263, val_main_v262, val_main_v261, val_main_v253, val_main_v252, val_main_v251, val_main_v250, val_main_cst_62, val_main_cst_63, val_main_cst_64]
  rw [v245_at, v121_at]
  exact kap_at _ _
/-- Histogram 2. -/
theorem v271_at (b : Fin 8) (i j : Fin 64) :
    val_main_v271 (F := Ideal) x0 (ix3 b i j) = (H (pic x0 b) 2 0 1 i j : EReal) := by
  pointwise [val_main_v271, val_main_v270, val_main_v269, val_main_v268]
  simp only [v119_at, v260_at, v267_at, ← EReal.coe_mul, coe_sum]
  rfl

/-- The three histograms. -/
theorem v275_at (b : Fin 8) (h : Fin 3) (i j : Fin 64) :
    val_main_v275 (F := Ideal) x0 (ix4 b h i j) = (hist (pic x0 b) h i j : EReal) := by
  pointwise [val_main_v275, val_main_v274, val_main_v273, val_main_v272]
  rw [v171_at, v221_at, v271_at]
  match h with
  | 0 => rfl
  | 1 => rfl
  | 2 => rfl

/-- The sum of a four-axis array over its last three axes. -/
theorem reduce_last_three (v : S8x3x64x64.Idx → EReal) (b : Fin 8) :
    Ideal.hostReduceAdd Gen.reducesTo_S8x3x64x64_S8_d1_2_3 v 0 (ix1 b) = ∑ h : Fin 3, ∑ i : Fin 64, ∑ j : Fin 64, v (ix4 b h i j) := by
  unfold Ideal.hostReduceAdd
  rw [zero_add]
  refine (Finset.sum_filter_eq_sum_of_fiber _ (fun k : Fin 3 × Fin 64 × Fin 64 => ix4 b k.1 k.2.1 k.2.2)
    (fun _ _ e => Prod.ext (congrFun e 1) (Prod.ext (congrFun e 2) (congrFun e 3))) (fun i => ?_) v).trans ?_
  · constructor
    · intro e
      refine ⟨(i 1, i 2, i 3), ?_⟩
      funext a; apply Fin.ext
      match a with
      | ⟨0, _⟩ => exact (congrArg Fin.val (congrFun e 0)).symm
      | ⟨1, _⟩ => rfl
      | ⟨2, _⟩ => rfl
      | ⟨3, _⟩ => rfl
    · rintro ⟨k, rfl⟩
      funext a
      apply Fin.ext
      match a with
      | ⟨0, _⟩ => rfl
  · simp only [Fintype.sum_prod_type]

/-- The normalising sum of a picture, with the small number added. -/
theorem v279_at (b : Fin 8) : val_main_v279 (F := Ideal) x0 (ix4 b 0 0 0) = ((nrm (pic x0 b) + eps : ℝ) : EReal) := by
  pointwise [val_main_v279, val_main_v278, val_main_v277, val_main_v276, val_main_cst_65, val_main_cst_66]
  rw [reduce_last_three, bits_eps]
  simp only [v275_at, coe_sum]
  rw [← EReal.coe_add]
  rfl

/-- One squared difference of roots of the loss. -/
def term (x0 : Vec Ideal S8x4x512x512 .f32) (x1 : Vec Ideal S3x64x64 .f32) (b : Fin 8) (h : Fin 3) (i j : Fin 64) : EReal :=
  (Ideal.sqrt (x1 (ix3 h i j)) - Ideal.sqrt (Ideal.div (hist (pic x0 b) h i j : EReal) ((nrm (pic x0 b) + eps : ℝ) : EReal)))
    * (Ideal.sqrt (x1 (ix3 h i j)) - Ideal.sqrt (Ideal.div (hist (pic x0 b) h i j : EReal) ((nrm (pic x0 b) + eps : ℝ) : EReal)))

/-- The squared difference, at an entry. -/
theorem v287_at (b : Fin 8) (h : Fin 3) (i j : Fin 64) :
    val_main_v287 (F := Ideal) x0 x1 (ix4 b h i j) = term x0 x1 b h i j := by
  pointwise [val_main_v287, val_main_v286, val_main_v285, val_main_v284, val_main_v283, val_main_v282, val_main_v281, val_main_v280]
  rw [v275_at, v279_at]
  rfl

/-- The loss: the rounded 1/√2 times the root of the sum of all squared differences, over the batch size. -/
theorem v292_at (u v : Fin 1) :
    val_main_v292 (F := Ideal) x0 x1 (ix2 u v)
      = Ideal.div ((wl : EReal) * Ideal.sqrt (∑ b, ∑ h, ∑ i, ∑ j, term x0 x1 b h i j)) ((8 : ℝ) : EReal) := by
  pointwise [val_main_v292, val_main_v291, val_main_v290, val_main_v289, val_main_v288, val_main_cst_67, val_main_cst_68, val_main_cst_69]
  rw [Ideal.hostReduceAdd_total _ (fun b => b.elim0), sum_idx4, zero_add, bits_wl, bits_eight]
  simp only [v287_at]

end Cert.ReferenceIdeal.Values
-- ==== Proof.Equation.lean ====
module

public import proofs.«01_k».proof.Proof.KernelFold
public import proofs.«01_k».proof.Proof.RefValue
public import proofs.«01_k».proof.Proof.Gen.Pre_finite_target
public import Idealize.ShloMosaic.Lib.Pointwise
public import Idealize.ShloMosaic.Lib.Tactic

@[expose] public section

set_option maxRecDepth 16384

noncomputable section

namespace Cert.Equation

open Idealize.ShloMosaic Idealize.ShloMosaic.TcCoe
open Cert.KernelIdeal Cert.KernelIdeal.Gen Cert.KernelIdeal.Value Cert.KernelIdeal.Values
open Cert.ReferenceIdeal.Read (val_main_v292)
open Cert.ReferenceIdeal.Values (pic term v292_at)
open Cert.Consts Cert.Scalars Cert.Model

/-- A value whose magnitude is below infinity is neither infinity. -/
theorem finite_of_abs_lt {a : EReal} (h : max a (-a) < ⊤) : a ≠ ⊥ ∧ a ≠ ⊤ := by
  constructor
  · rintro rfl; exact absurd h (by simp)
  · rintro rfl; exact absurd h (by simp)

/-- Where the precondition holds, the target is finite. -/
theorem finite_target (x0 : Vec Ideal S8x4x512x512 .f32) (x1 : Vec Ideal S3x64x64 .f32)
    (hp : Cert.Pre_finite_target.fn (F := Ideal) x0 x1 = fun _ => 1#1) (h : Fin 3) (i j : Fin 64) :
    x1 (ix3 h i j) ≠ ⊥ ∧ x1 (ix3 h i j) ≠ ⊤ := by
  have e := congrFun hp (ix3 h i j)
  have e' : Cert.Pre_finite_target.fn (F := Ideal) x0 x1 (ix3 h i j)
      = BitVec.ofBool (decide (max (x1 (ix3 h i j)) (-x1 (ix3 h i j)) < Ideal.ofBits .f32 0x7F800000#32)) := by
    pointwise [Cert.Pre_finite_target.fn]
    rfl
  rw [e', bits_inf] at e
  refine finite_of_abs_lt (by_contra fun hn => ?_)
  rw [decide_eq_false hn] at e
  exact absurd e (by decide)

variable (m : (ℓ : Loc nD τ sig) → Buf (Elt Ideal) ℓ) (c : Dev nD)

/-- What a point adds is the picture's squared distance in the reference. -/
theorem part_eq (b : Fin 8) (hb : b.val < cfg0.N) :
    part m c ⟨b, hb⟩ = ∑ h, ∑ i, ∑ j, term (image m c) (target m c) b h i j := by
  have e : blockPic (X0_0 m c ⟨b, hb⟩) = pic (image m c) b := by
    funext k r s
    exact congrArg cl (block_image m c ⟨b, hb⟩ k r s)
  unfold part
  rw [e]
  rfl

/-- The kernel's result is the reference's, where the target is finite. -/
theorem result_eq (hf : ∀ h i j, target m c (ix3 h i j) ≠ ⊥ ∧ target m c (ix3 h i j) ≠ ⊤) :
    G3 m c = val_main_v292 (F := Ideal) (image m c) (target m c) := by
  have key : G3 m c (ix2 0 0) = val_main_v292 (F := Ideal) (image m c) (target m c) (ix2 0 0) := by
    rw [result_at m c (fun h i j => (hf h i j).1) (fun h i j => (hf h i j).2), v292_at]
    simp only [part_eq]
    rw [Ideal.div_coe (by norm_num), Ideal.div_coe (by norm_num), mul_assoc, mul_assoc, mul_comm (Ideal.sqrt _)]
  funext k
  have hk : k = ix2 0 0 := by
    funext a; apply Fin.ext
    match a with
    | ⟨0, _⟩ => have h := (k 0).isLt; exact Nat.lt_one_iff.mp h
    | ⟨1, _⟩ => have h := (k 1).isLt; exact Nat.lt_one_iff.mp h
  rw [hk]
  exact key

end Cert.Equation
-- ==== Proof.lean ====
/- The assembly of `Cert.Claim`. The runs and the frames are those of the generated modules. The value claim:
   `Proof/KernelFold` reads the kernel's result as a root of a sum over the eight pictures, `Proof/RefValue` reads
   the reference's result as the same, and `Proof/Equation` sets the two equal. The mathematics of the histograms
   is in `Proof/Model`, that of the extended reals in `Proof/Scalars`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import proofs.«01_k».proof.Proof.Gen.Pre_finite_target
public import Idealize.ShloMosaic.Lib.Quiescent
public import Idealize.ShloMosaic.Adequacy
public import Idealize.ShloMosaic.Init

@[expose] public section

noncomputable section

namespace Cert.Proof

open Idealize.ShloMosaic Idealize.SL.Sem

/-- The kernel as it is runs, keeps its arguments and ends quiescent. -/
theorem kernel_frame : Cert.quiescent_Kernel := fun m ρ _ => Cert.Kernel.Gen.frame m ρ

/-- So does its reading over the extended reals, with and without the precondition. -/
theorem ideal_frame : Cert.quiescent_KernelIdeal := fun m ρ _ => Cert.KernelIdeal.Gen.frame m ρ
theorem ideal_frame_finite : Cert.quiescent_KernelIdeal_pre_finite_target := fun m ρ _ => Cert.KernelIdeal.Gen.frame m ρ

/-- So does the reference, with and without the precondition. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)
theorem reference_frame_finite : Cert.quiescent_ReferenceIdeal_pre_finite_target := fun m ρ _ => reference_frame m ρ trivial

/-- The three named constants are what the kernel's words round. -/
theorem preserves : Cert.preserves_Kernel_KernelIdeal :=
  ⟨IdealRules.named_const.statement Cert.KernelIdeal.κ "inv_log2" .f32 0x3FB8AA3B#32 _ rfl,
    IdealRules.named_const.statement Cert.KernelIdeal.κ "log2_inv_sigma" .f32 0x420AA123#32 _ rfl,
    IdealRules.named_const.statement Cert.KernelIdeal.κ "delta_step" .f32 0x3DC30C31#32 _ rfl⟩

/-- Kernel and reference end with the same result, over the extended reals, where the target is finite. -/
theorem algebraic : Cert.algebraic_KernelIdeal_ReferenceIdeal_pre_finite_target := by
  intro m g m' g' hpre hagree
  refine ⟨fun c => Cert.KernelIdeal.Value.G3 m c, Cert.KernelIdeal.Value.run m g, ?_⟩
  refine (θ_run Cert.ReferenceIdeal.defs _ _).mono (fun r h c => ⟨?_, (h c).2⟩) (Cert.ReferenceIdeal.Value.run m' g')
  refine (h c).1.trans ((Cert.ReferenceIdeal.Read.val_main_v292_eq (StableHlo.launchContents m' c)).trans ?_)
  change Cert.ReferenceIdeal.Read.val_main_v292 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) = _
  rw [(hagree c).1, (hagree c).2]
  exact (Cert.Equation.result_eq m c (Cert.Equation.finite_target _ _ (hpre c))).symm

theorem claim : Cert.Claim := ⟨Cert.Kernel.Gen.facts, Cert.KernelIdeal.Gen.facts, Cert.ReferenceIdeal.Gen.facts, Cert.Pre_finite_target.Gen.facts,
  kernel_frame, ideal_frame, ideal_frame_finite, reference_frame, reference_frame_finite, preserves, algebraic⟩

end Cert.Proof

end
